-- ==== Defs.lean ====
def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_hidden_exponents_in_range [hPre_hidden_exponents_in_range : Cert.Pre_hidden_exponents_in_range.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_hidden_exponents_in_range.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3))) = (fun _ => 1#1)

def Pre_HiddenReferenceIdeal (m : (ℓ : Loc Cert.HiddenReferenceIdeal.nD Cert.HiddenReferenceIdeal.τ Cert.HiddenReferenceIdeal.sig) → Buf (Elt Ideal) ℓ) : Prop :=
  True

def Pre_HiddenReferenceIdeal_hidden_exponents_in_range [hPre_hidden_exponents_in_range : Cert.Pre_hidden_exponents_in_range.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_hidden_exponents_in_range.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exponents_in_range [hPre_exponents_in_range : Cert.Pre_exponents_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_exponents_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exponents_in_range [hPre_exponents_in_range : Cert.Pre_exponents_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exponents_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenIdeal_pre_hidden_exponents_in_range [hHiddenIdeal : Cert.HiddenIdeal.Facts] [hPre_hidden_exponents_in_range : Cert.Pre_hidden_exponents_in_range.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_hidden_exponents_in_range m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_HiddenReferenceIdeal_pre_hidden_exponents_in_range [hHiddenReferenceIdeal : Cert.HiddenReferenceIdeal.Facts] [hPre_hidden_exponents_in_range : Cert.Pre_hidden_exponents_in_range.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal_hidden_exponents_in_range m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_exponents_in_range [hKernelIdeal : Cert.KernelIdeal.Facts] [hPre_exponents_in_range : Cert.Pre_exponents_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exponents_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_exponents_in_range [hReferenceIdeal : Cert.ReferenceIdeal.Facts] [hPre_exponents_in_range : Cert.Pre_exponents_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exponents_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Hidden_HiddenIdeal : Prop :=
  True

def preserves_Kernel_KernelIdeal : Prop :=
  True

def algebraic_HiddenIdeal_HiddenReferenceIdeal_pre_hidden_exponents_in_range [hHiddenIdeal : Cert.HiddenIdeal.Facts] [hHiddenReferenceIdeal : Cert.HiddenReferenceIdeal.Facts] [hPre_hidden_exponents_in_range : Cert.Pre_hidden_exponents_in_range.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal_hidden_exponents_in_range m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v2_0)) (v1 : (c : Dev Cert.HiddenIdeal.nD) → Buf (Elt Ideal) ((c.tc : Thread Cert.HiddenIdeal.nD Cert.HiddenIdeal.τ).loc Cert.HiddenIdeal.main_v2_1)) (v2 : (c : Dev Cert.HiddenIdeal.nD) → Buf (Elt Ideal) ((c.tc : Thread Cert.HiddenIdeal.nD Cert.HiddenIdeal.τ).loc Cert.HiddenIdeal.main_v2_2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v2_0) = v0 c
          ∧ r.2.mem ((c.tc : Thread Cert.HiddenIdeal.nD Cert.HiddenIdeal.τ).loc Cert.HiddenIdeal.main_v2_1) = v1 c
          ∧ r.2.mem ((c.tc : Thread Cert.HiddenIdeal.nD Cert.HiddenIdeal.τ).loc Cert.HiddenIdeal.main_v2_2) = v2 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v0_0) = v0 c
          ∧ r.2.mem ((c.tc : Thread Cert.HiddenReferenceIdeal.nD Cert.HiddenReferenceIdeal.τ).loc Cert.HiddenReferenceIdeal.main_v0_1) = v1 c
          ∧ r.2.mem ((c.tc : Thread Cert.HiddenReferenceIdeal.nD Cert.HiddenReferenceIdeal.τ).loc Cert.HiddenReferenceIdeal.main_v0_2) = v2 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def algebraic_KernelIdeal_ReferenceIdeal_pre_exponents_in_range [hKernelIdeal : Cert.KernelIdeal.Facts] [hReferenceIdeal : Cert.ReferenceIdeal.Facts] [hPre_exponents_in_range : Cert.Pre_exponents_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exponents_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hHidden : Cert.Hidden.Facts) (hHiddenIdeal : Cert.HiddenIdeal.Facts) (hHiddenReferenceIdeal : Cert.HiddenReferenceIdeal.Facts) (hKernel : Cert.Kernel.Facts) (hKernelIdeal : Cert.KernelIdeal.Facts) (hReferenceIdeal : Cert.ReferenceIdeal.Facts) (hPre_hidden_exponents_in_range : Cert.Pre_hidden_exponents_in_range.Facts) (hPre_exponents_in_range : Cert.Pre_exponents_in_range.Facts),
    quiescent_Hidden (hHidden := hHidden)
    ∧ quiescent_HiddenIdeal (hHiddenIdeal := hHiddenIdeal)
    ∧ quiescent_HiddenIdeal_pre_hidden_exponents_in_range (hHiddenIdeal := hHiddenIdeal) (hPre_hidden_exponents_in_range := hPre_hidden_exponents_in_range)
    ∧ quiescent_HiddenReferenceIdeal (hHiddenReferenceIdeal := hHiddenReferenceIdeal)
    ∧ quiescent_HiddenReferenceIdeal_pre_hidden_exponents_in_range (hHiddenReferenceIdeal := hHiddenReferenceIdeal) (hPre_hidden_exponents_in_range := hPre_hidden_exponents_in_range)
    ∧ quiescent_Kernel (hKernel := hKernel)
    ∧ quiescent_KernelIdeal (hKernelIdeal := hKernelIdeal)
    ∧ quiescent_KernelIdeal_pre_exponents_in_range (hKernelIdeal := hKernelIdeal) (hPre_exponents_in_range := hPre_exponents_in_range)
    ∧ quiescent_ReferenceIdeal (hReferenceIdeal := hReferenceIdeal)
    ∧ quiescent_ReferenceIdeal_pre_exponents_in_range (hReferenceIdeal := hReferenceIdeal) (hPre_exponents_in_range := hPre_exponents_in_range)
    ∧ preserves_Hidden_HiddenIdeal
    ∧ preserves_Kernel_KernelIdeal
    ∧ algebraic_HiddenIdeal_HiddenReferenceIdeal_pre_hidden_exponents_in_range (hHiddenIdeal := hHiddenIdeal) (hHiddenReferenceIdeal := hHiddenReferenceIdeal) (hPre_hidden_exponents_in_range := hPre_hidden_exponents_in_range)
    ∧ algebraic_KernelIdeal_ReferenceIdeal_pre_exponents_in_range (hKernelIdeal := hKernelIdeal) (hReferenceIdeal := hReferenceIdeal) (hPre_exponents_in_range := hPre_exponents_in_range)
-- ==== Pre_exponents_in_range.lean ====
abbrev S6656x8192 : Shape := ⟨2, ![6656, 8192]⟩
abbrev S8192x8192 : Shape := ⟨2, ![8192, 8192]⟩
abbrev S256x8192 : Shape := ⟨2, ![256, 8192]⟩
abbrev S8192 : Shape := ⟨1, ![8192]⟩
abbrev S_ : Shape := ⟨0, ![]⟩

class Facts : Prop where
  bcast_S_S256x8192 : S_.BroadcastsInDim S256x8192 (![] : Fin 0 → Fin S256x8192.rank)

variable [Facts]

def fn {F : FTy → Type} [FloatOps F] (main_arg0 : FVec F S6656x8192 .bf16) (main_arg1 : FVec F S8192x8192 .fp8e4m3) (main_arg2 : IVec S256x8192 8) (main_arg3 : FVec F S8192 .f32) : IVec S256x8192 1 :=
  let main_c : IVec S_ 8 := constantI S_ 8 1#8
  let main_v0 : IVec S256x8192 8 := broadcastInDim S256x8192 ![] bcast_S_S256x8192 main_c
  let main_v1 : IVec S256x8192 1 := cmpi .uge main_arg2 main_v0
  let main_c_0 : IVec S_ 8 := constantI S_ 8 254#8
  let main_v2 : IVec S256x8192 8 := broadcastInDim S256x8192 ![] bcast_S_S256x8192 main_c_0
  let main_v3 : IVec S256x8192 1 := cmpi .ule main_arg2 main_v2
  let main_v4 : IVec S256x8192 1 := andi main_v1 main_v3
  main_v4
-- ==== Pre_hidden_exponents_in_range.lean ====
abbrev S6656x12800 : Shape := ⟨2, ![6656, 12800]⟩
abbrev S12800x8192 : Shape := ⟨2, ![12800, 8192]⟩
abbrev S400x8192 : Shape := ⟨2, ![400, 8192]⟩
abbrev S8192 : Shape := ⟨1, ![8192]⟩
abbrev S_ : Shape := ⟨0, ![]⟩

class Facts : Prop where
  bcast_S_S400x8192 : S_.BroadcastsInDim S400x8192 (![] : Fin 0 → Fin S400x8192.rank)

variable [Facts]

def fn {F : FTy → Type} [FloatOps F] (main_arg0 : FVec F S6656x12800 .bf16) (main_arg1 : FVec F S12800x8192 .fp8e4m3) (main_arg2 : IVec S400x8192 8) (main_arg3 : FVec F S8192 .f32) : IVec S400x8192 1 :=
  let main_c : IVec S_ 8 := constantI S_ 8 1#8
  let main_v0 : IVec S400x8192 8 := broadcastInDim S400x8192 ![] bcast_S_S400x8192 main_c
  let main_v1 : IVec S400x8192 1 := cmpi .uge main_arg2 main_v0
  let main_c_0 : IVec S_ 8 := constantI S_ 8 254#8
  let main_v2 : IVec S400x8192 8 := broadcastInDim S400x8192 ![] bcast_S_S400x8192 main_c_0
  let main_v3 : IVec S400x8192 1 := cmpi .ule main_arg2 main_v2
  let main_v4 : IVec S400x8192 1 := andi main_v1 main_v3
  main_v4
-- ==== Hidden.lean ====
abbrev S6656x12800 : Shape := ⟨2, ![6656, 12800]⟩
abbrev S12800x8192 : Shape := ⟨2, ![12800, 8192]⟩
abbrev S400x8192 : Shape := ⟨2, ![400, 8192]⟩
abbrev S8192 : Shape := ⟨1, ![8192]⟩
abbrev S1x8192 : Shape := ⟨2, ![1, 8192]⟩
abbrev S6656x8192 : Shape := ⟨2, ![6656, 8192]⟩
abbrev S6656x256 : Shape := ⟨2, ![6656, 256]⟩
abbrev S512x12800 : Shape := ⟨2, ![512, 12800]⟩
abbrev S12800x256 : Shape := ⟨2, ![12800, 256]⟩
abbrev S400x256 : Shape := ⟨2, ![400, 256]⟩
abbrev S1x256 : Shape := ⟨2, ![1, 256]⟩
abbrev S512x256 : Shape := ⟨2, ![512, 256]⟩
abbrev S256x256 : Shape := ⟨2, ![256, 256]⟩
abbrev S16x256 : Shape := ⟨2, ![16, 256]⟩
abbrev S32x256 : Shape := ⟨2, ![32, 256]⟩
abbrev S8x128 : Shape := ⟨2, ![8, 128]⟩
abbrev S1x128 : Shape := ⟨2, ![1, 128]⟩
abbrev S8x128x1 : Shape := ⟨3, ![8, 128, 1]⟩
abbrev S32x128 : Shape := ⟨2, ![32, 128]⟩

abbrev nBuf : Space → Nat
  | .hbm => 9
  | .vmem => 17
  | .smem => 0
  | _ => 0

abbrev bufTy : (tb : Table) → Fin (tcTables nBuf tb) → BufTy
  | .hbm, ⟨0, _⟩ => ⟨S6656x12800, .bf16⟩
  | .hbm, ⟨1, _⟩ => ⟨S12800x8192, .fp8e4m3⟩
  | .hbm, ⟨2, _⟩ => ⟨S400x8192, .i8⟩
  | .hbm, ⟨3, _⟩ => ⟨S8192, .f32⟩
  | .hbm, ⟨4, _⟩ => ⟨S400x8192, .i32⟩
  | .hbm, ⟨5, _⟩ => ⟨S1x8192, .f32⟩
  | .hbm, ⟨6, _⟩ => ⟨S6656x8192, .fp8e4m3⟩
  | .hbm, ⟨7, _⟩ => ⟨S6656x256, .i8⟩
  | .hbm, ⟨8, _⟩ => ⟨S6656x8192, .bf16⟩
  | .local _ .vmem, ⟨0, _⟩ => ⟨S512x12800, .bf16⟩
  | .local _ .vmem, ⟨1, _⟩ => ⟨S512x12800, .bf16⟩
  | .local _ .vmem, ⟨2, _⟩ => ⟨S12800x256, .fp8e4m3⟩
  | .local _ .vmem, ⟨3, _⟩ => ⟨S12800x256, .fp8e4m3⟩
  | .local _ .vmem, ⟨4, _⟩ => ⟨S400x256, .i32⟩
  | .local _ .vmem, ⟨5, _⟩ => ⟨S400x256, .i32⟩
  | .local _ .vmem, ⟨6, _⟩ => ⟨S1x256, .f32⟩
  | .local _ .vmem, ⟨7, _⟩ => ⟨S1x256, .f32⟩
  | .local _ .vmem, ⟨8, _⟩ => ⟨S512x256, .fp8e4m3⟩
  | .local _ .vmem, ⟨9, _⟩ => ⟨S512x256, .fp8e4m3⟩
  | .local _ .vmem, ⟨10, _⟩ => ⟨S512x256, .i8⟩
  | .local _ .vmem, ⟨11, _⟩ => ⟨S512x256, .i8⟩
  | .local _ .vmem, ⟨12, _⟩ => ⟨S512x256, .bf16⟩
  | .local _ .vmem, ⟨13, _⟩ => ⟨S512x256, .bf16⟩
  | .local _ .vmem, ⟨14, _⟩ => ⟨S12800x256, .bf16⟩
  | .local _ .vmem, ⟨15, _⟩ => ⟨S512x256, .f32⟩
  | .local _ .vmem, ⟨16, _⟩ => ⟨S256x256, .i32⟩
  | _, _ => ⟨S6656x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 32], ![false, false]⟩

@[reducible] def k0_t1_loop : Scf.Loop 32 :=
  let c0_i32 : BitVec 32 := 0#32
  let c400_i32 : BitVec 32 := 400#32
  let v4 : BitVec 32 := Scalar.addi c0_i32 c400_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32 : BitVec 32 := 32#32
  let v23 : BitVec 32 := Scalar.muli arg12 c32_i32
  v23
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let v25 : Index := Scalar.indexCast arg12
  let c0_21 : Index := 0#32
  ![v25.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v23 : BitVec 32 := Scalar.muli arg12 c32_i32
  let v24 : BitVec 32 := v23
  let v36 : Index := Scalar.indexCast v24
  let c0_22 : Index := 0#32
  ![v36.toNat, 0]
@[reducible] def k0_t2_loop : Scf.Loop 32 :=
  let c0_i32_17 : BitVec 32 := 0#32
  let c16_i32 : BitVec 32 := 16#32
  let v19 : BitVec 32 := Scalar.addi c0_i32_17 c16_i32
  let c1_i32_18 : BitVec 32 := 1#32
  ⟨c0_i32_17, v19, c1_i32_18⟩
def k0_mult2 (k0_t2 : Fin k0_t2_loop.trips) : BitVec 32 :=
  let c0_i32_17 : BitVec 32 := 0#32
  let c1_i32_18 : BitVec 32 := 1#32
  let arg12 : BitVec 32 := Scf.iv c0_i32_17 c1_i32_18 k0_t2
  let c32_i32 : BitVec 32 := 32#32
  let v23 : BitVec 32 := Scalar.muli arg12 c32_i32
  v23
def k0_off3 (k0_t2 : Fin k0_t2_loop.trips) (c0_i32_21 : BitVec 32) : Fin 2 → Nat :=
  let c0_i32_17 : BitVec 32 := 0#32
  let c1_i32_18 : BitVec 32 := 1#32
  let arg12 : BitVec 32 := Scf.iv c0_i32_17 c1_i32_18 k0_t2
  let c32_i32 : BitVec 32 := 32#32
  let v23 : BitVec 32 := Scalar.muli arg12 c32_i32
  let v24 : BitVec 32 := v23
  let v25 : BitVec 32 := Scalar.addi v24 c0_i32_21
  let v26 : Index := Scalar.indexCast v25
  let c0_22 : Index := 0#32
  ![v26.toNat, 0]
def k0_mult3 (k0_t2 : Fin k0_t2_loop.trips) : BitVec 32 :=
  let c0_i32_17 : BitVec 32 := 0#32
  let c1_i32_18 : BitVec 32 := 1#32
  let arg12 : BitVec 32 := Scf.iv c0_i32_17 c1_i32_18 k0_t2
  let c16_i32_139 : BitVec 32 := 16#32
  let v393 : BitVec 32 := Scalar.muli arg12 c16_i32_139
  let c0_i32_140 : BitVec 32 := 0#32
  let v394 : BitVec 32 := Scalar.addi v393 c0_i32_140
  v394
def k0_mult4 (i : grid0.Coords) : BitVec 32 :=
  let arg1 : BitVec 32 := BitVec.ofNat 32 (i 1).val
  let c16_i32_141 : BitVec 32 := 16#32
  let v396 : BitVec 32 := Scalar.divsi arg1 c16_i32_141
  let c128_i32_142 : BitVec 32 := 128#32
  let v397 : BitVec 32 := Scalar.muli v396 c128_i32_142
  v397
def k0_off4 (i : grid0.Coords) (k0_t2 : Fin k0_t2_loop.trips) (c0_i32_140 : BitVec 32) : Fin 2 → Nat :=
  let c0_i32_17 : BitVec 32 := 0#32
  let c1_i32_18 : BitVec 32 := 1#32
  let arg12 : BitVec 32 := Scf.iv c0_i32_17 c1_i32_18 k0_t2
  let c16_i32_139 : BitVec 32 := 16#32
  let v393 : BitVec 32 := Scalar.muli arg12 c16_i32_139
  let v394 : BitVec 32 := Scalar.addi v393 c0_i32_140
  let v395 : BitVec 32 := v394
  let v415 : Index := Scalar.indexCast v395
  let arg1 : BitVec 32 := BitVec.ofNat 32 (i 1).val
  let c16_i32_141 : BitVec 32 := 16#32
  let v396 : BitVec 32 := Scalar.divsi arg1 c16_i32_141
  let c128_i32_142 : BitVec 32 := 128#32
  let v397 : BitVec 32 := Scalar.muli v396 c128_i32_142
  let v398 : BitVec 32 := v397
  let v416 : Index := Scalar.indexCast v398
  ![v415.toNat, v416.toNat]
def k0_mult5 (k0_t2 : Fin k0_t2_loop.trips) : BitVec 32 :=
  let c0_i32_17 : BitVec 32 := 0#32
  let c1_i32_18 : BitVec 32 := 1#32
  let arg12 : BitVec 32 := Scf.iv c0_i32_17 c1_i32_18 k0_t2
  let c16_i32_253 : BitVec 32 := 16#32
  let v732 : BitVec 32 := Scalar.muli arg12 c16_i32_253
  let c8_i32_254 : BitVec 32 := 8#32
  let v733 : BitVec 32 := Scalar.addi v732 c8_i32_254
  v733
def k0_mult6 (i : grid0.Coords) : BitVec 32 :=
  let arg1 : BitVec 32 := BitVec.ofNat 32 (i 1).val
  let c16_i32_255 : BitVec 32 := 16#32
  let v735 : BitVec 32 := Scalar.divsi arg1 c16_i32_255
  let c128_i32_256 : BitVec 32 := 128#32
  let v736 : BitVec 32 := Scalar.muli v735 c128_i32_256
  v736
def k0_off5 (k0_t2 : Fin k0_t2_loop.trips) : Fin 2 → Nat :=
  let c0_i32_17 : BitVec 32 := 0#32
  let c1_i32_18 : BitVec 32 := 1#32
  let arg12 : BitVec 32 := Scf.iv c0_i32_17 c1_i32_18 k0_t2
  let c32_i32 : BitVec 32 := 32#32
  let v23 : BitVec 32 := Scalar.muli arg12 c32_i32
  let v24 : BitVec 32 := v23
  let v765 : Index := Scalar.indexCast v24
  let c0_266 : Index := 0#32
  ![v765.toNat, 0]
def k0_off6 (k0_t2 : Fin k0_t2_loop.trips) (c0_i32_268 : BitVec 32) : Fin 2 → Nat :=
  let c0_i32_17 : BitVec 32 := 0#32
  let c1_i32_18 : BitVec 32 := 1#32
  let arg12 : BitVec 32 := Scf.iv c0_i32_17 c1_i32_18 k0_t2
  let c32_i32 : BitVec 32 := 32#32
  let v23 : BitVec 32 := Scalar.muli arg12 c32_i32
  let v24 : BitVec 32 := v23
  let v773 : BitVec 32 := Scalar.addi v24 c0_i32_268
  let v774 : Index := Scalar.indexCast v773
  let c128 : Index := 128#32
  ![v774.toNat, 128]
def k0_mult7 (k0_t2 : Fin k0_t2_loop.trips) : BitVec 32 :=
  let c0_i32_17 : BitVec 32 := 0#32
  let c1_i32_18 : BitVec 32 := 1#32
  let arg12 : BitVec 32 := Scf.iv c0_i32_17 c1_i32_18 k0_t2
  let c16_i32_396 : BitVec 32 := 16#32
  let v1141 : BitVec 32 := Scalar.muli arg12 c16_i32_396
  let c0_i32_397 : BitVec 32 := 0#32
  let v1142 : BitVec 32 := Scalar.addi v1141 c0_i32_397
  v1142
def k0_mult8 (i : grid0.Coords) : BitVec 32 :=
  let arg1 : BitVec 32 := BitVec.ofNat 32 (i 1).val
  let c16_i32_398 : BitVec 32 := 16#32
  let v1144 : BitVec 32 := Scalar.divsi arg1 c16_i32_398
  let c128_i32_399 : BitVec 32 := 128#32
  let v1145 : BitVec 32 := Scalar.muli v1144 c128_i32_399
  v1145
def k0_mult9 (k0_t2 : Fin k0_t2_loop.trips) : BitVec 32 :=
  let c0_i32_17 : BitVec 32 := 0#32
  let c1_i32_18 : BitVec 32 := 1#32
  let arg12 : BitVec 32 := Scf.iv c0_i32_17 c1_i32_18 k0_t2
  let c16_i32_510 : BitVec 32 := 16#32
  let v1480 : BitVec 32 := Scalar.muli arg12 c16_i32_510
  let c8_i32_511 : BitVec 32 := 8#32
  let v1481 : BitVec 32 := Scalar.addi v1480 c8_i32_511
  v1481
def k0_mult10 (i : grid0.Coords) : BitVec 32 :=
  let arg1 : BitVec 32 := BitVec.ofNat 32 (i 1).val
  let c16_i32_512 : BitVec 32 := 16#32
  let v1483 : BitVec 32 := Scalar.divsi arg1 c16_i32_512
  let c128_i32_513 : BitVec 32 := 128#32
  let v1484 : BitVec 32 := Scalar.muli v1483 c128_i32_513
  v1484
def k0_off7 (k0_t2 : Fin k0_t2_loop.trips) : Fin 2 → Nat :=
  let c0_i32_17 : BitVec 32 := 0#32
  let c1_i32_18 : BitVec 32 := 1#32
  let arg12 : BitVec 32 := Scf.iv c0_i32_17 c1_i32_18 k0_t2
  let c32_i32 : BitVec 32 := 32#32
  let v23 : BitVec 32 := Scalar.muli arg12 c32_i32
  let v24 : BitVec 32 := v23
  let v1513 : Index := Scalar.indexCast v24
  let c128_523 : Index := 128#32
  ![v1513.toNat, 128]
def k0_cond2 (i : grid0.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_20 : BitVec 32 := 0#32
  let v22 : BitVec 1 := Scalar.cmpi .ne v21 c0_i32_20
  v22

@[reducible] def k0_t3_loop : Scf.Loop 32 :=
  let c0_i32_21 : BitVec 32 := 0#32
  let c16_i32_22 : BitVec 32 := 16#32
  let v23 : BitVec 32 := Scalar.addi c0_i32_21 c16_i32_22
  let c1_i32_23 : BitVec 32 := 1#32
  ⟨c0_i32_21, v23, c1_i32_23⟩
def k0_mult11 (k0_t3 : Fin k0_t3_loop.trips) : BitVec 32 :=
  let c0_i32_21 : BitVec 32 := 0#32
  let c1_i32_23 : BitVec 32 := 1#32
  let arg12 : BitVec 32 := Scf.iv c0_i32_21 c1_i32_23 k0_t3
  let c32_i32 : BitVec 32 := 32#32
  let v24 : BitVec 32 := Scalar.muli arg12 c32_i32
  v24
def k0_mult12 (k0_t3 : Fin k0_t3_loop.trips) : BitVec 32 :=
  let c0_i32_21 : BitVec 32 := 0#32
  let c1_i32_23 : BitVec 32 := 1#32
  let arg12 : BitVec 32 := Scf.iv c0_i32_21 c1_i32_23 k0_t3
  let c16_i32_25 : BitVec 32 := 16#32
  let v26 : BitVec 32 := Scalar.muli arg12 c16_i32_25
  let c0_i32_26 : BitVec 32 := 0#32
  let v27 : BitVec 32 := Scalar.addi v26 c0_i32_26
  v27
def k0_off8 (k0_t3 : Fin k0_t3_loop.trips) (c0_i32_26 : BitVec 32) : Fin 2 → Nat :=
  let c0_i32_21 : BitVec 32 := 0#32
  let c1_i32_23 : BitVec 32 := 1#32
  let arg12 : BitVec 32 := Scf.iv c0_i32_21 c1_i32_23 k0_t3
  let c16_i32_25 : BitVec 32 := 16#32
  let v26 : BitVec 32 := Scalar.muli arg12 c16_i32_25
  let v27 : BitVec 32 := Scalar.addi v26 c0_i32_26
  let v28 : BitVec 32 := v27
  let v29 : Index := Scalar.indexCast v28
  let c0_27 : Index := 0#32
  ![v29.toNat, 0]
def k0_mult13 (k0_t3 : Fin k0_t3_loop.trips) : BitVec 32 :=
  let c0_i32_21 : BitVec 32 := 0#32
  let c1_i32_23 : BitVec 32 := 1#32
  let arg12 : BitVec 32 := Scf.iv c0_i32_21 c1_i32_23 k0_t3
  let c16_i32_32 : BitVec 32 := 16#32
  let v59 : BitVec 32 := Scalar.muli arg12 c16_i32_32
  let c8_i32_33 : BitVec 32 := 8#32
  let v60 : BitVec 32 := Scalar.addi v59 c8_i32_33
  v60
def k0_off9 (k0_t3 : Fin k0_t3_loop.trips) : Fin 2 → Nat :=
  let c0_i32_21 : BitVec 32 := 0#32
  let c1_i32_23 : BitVec 32 := 1#32
  let arg12 : BitVec 32 := Scf.iv c0_i32_21 c1_i32_23 k0_t3
  let c32_i32 : BitVec 32 := 32#32
  let v24 : BitVec 32 := Scalar.muli arg12 c32_i32
  let v25 : BitVec 32 := v24
  let v94 : Index := Scalar.indexCast v25
  let c0_46 : Index := 0#32
  ![v94.toNat, 0]
def k0_mult14 (k0_t3 : Fin k0_t3_loop.trips) : BitVec 32 :=
  let c0_i32_21 : BitVec 32 := 0#32
  let c1_i32_23 : BitVec 32 := 1#32
  let arg12 : BitVec 32 := Scf.iv c0_i32_21 c1_i32_23 k0_t3
  let c16_i32_47 : BitVec 32 := 16#32
  let v96 : BitVec 32 := Scalar.muli arg12 c16_i32_47
  let c0_i32_48 : BitVec 32 := 0#32
  let v97 : BitVec 32 := Scalar.addi v96 c0_i32_48
  v97
def k0_off10 (k0_t3 : Fin k0_t3_loop.trips) (c0_i32_48 : BitVec 32) : Fin 2 → Nat :=
  let c0_i32_21 : BitVec 32 := 0#32
  let c1_i32_23 : BitVec 32 := 1#32
  let arg12 : BitVec 32 := Scf.iv c0_i32_21 c1_i32_23 k0_t3
  let c16_i32_47 : BitVec 32 := 16#32
  let v96 : BitVec 32 := Scalar.muli arg12 c16_i32_47
  let v97 : BitVec 32 := Scalar.addi v96 c0_i32_48
  let v98 : BitVec 32 := v97
  let v99 : Index := Scalar.indexCast v98
  let c128 : Index := 128#32
  ![v99.toNat, 128]
def k0_mult15 (k0_t3 : Fin k0_t3_loop.trips) : BitVec 32 :=
  let c0_i32_21 : BitVec 32 := 0#32
  let c1_i32_23 : BitVec 32 := 1#32
  let arg12 : BitVec 32 := Scf.iv c0_i32_21 c1_i32_23 k0_t3
  let c16_i32_60 : BitVec 32 := 16#32
  let v129 : BitVec 32 := Scalar.muli arg12 c16_i32_60
  let c8_i32_61 : BitVec 32 := 8#32
  let v130 : BitVec 32 := Scalar.addi v129 c8_i32_61
  v130
def k0_off11 (k0_t3 : Fin k0_t3_loop.trips) : Fin 2 → Nat :=
  let c0_i32_21 : BitVec 32 := 0#32
  let c1_i32_23 : BitVec 32 := 1#32
  let arg12 : BitVec 32 := Scf.iv c0_i32_21 c1_i32_23 k0_t3
  let c32_i32 : BitVec 32 := 32#32
  let v24 : BitVec 32 := Scalar.muli arg12 c32_i32
  let v25 : BitVec 32 := v24
  let v164 : Index := Scalar.indexCast v25
  let c128_74 : Index := 128#32
  ![v164.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x12800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12800x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S400x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HiddenReferenceIdeal.lean ====
abbrev S6656x12800 : Shape := ⟨2, ![6656, 12800]⟩
abbrev S12800x8192 : Shape := ⟨2, ![12800, 8192]⟩
abbrev S400x8192 : Shape := ⟨2, ![400, 8192]⟩
abbrev S8192 : Shape := ⟨1, ![8192]⟩
abbrev S6656x8192 : Shape := ⟨2, ![6656, 8192]⟩
abbrev S6656x256 : Shape := ⟨2, ![6656, 256]⟩
abbrev S400x32x8192 : Shape := ⟨3, ![400, 32, 8192]⟩
abbrev S400x1x8192 : Shape := ⟨3, ![400, 1, 8192]⟩
abbrev S1x8192 : Shape := ⟨2, ![1, 8192]⟩
abbrev S6656x256x32 : Shape := ⟨3, ![6656, 256, 32]⟩
abbrev S6656x256x1 : Shape := ⟨3, ![6656, 256, 1]⟩

abbrev nBuf : Space → Nat
  | .hbm => 7
  | .vmem => 7
  | .smem => 0
  | _ => 0

abbrev bufTy : (tb : Table) → Fin (tcTables nBuf tb) → BufTy
  | .hbm, ⟨0, _⟩ => ⟨S6656x12800, .bf16⟩
  | .hbm, ⟨1, _⟩ => ⟨S12800x8192, .fp8e4m3⟩
  | .hbm, ⟨2, _⟩ => ⟨S400x8192, .i8⟩
  | .hbm, ⟨3, _⟩ => ⟨S8192, .f32⟩
  | .hbm, ⟨4, _⟩ => ⟨S6656x8192, .fp8e4m3⟩
  | .hbm, ⟨5, _⟩ => ⟨S6656x256, .i8⟩
  | .hbm, ⟨6, _⟩ => ⟨S6656x8192, .bf16⟩
  | .local _ .vmem, ⟨0, _⟩ => ⟨S6656x12800, .bf16⟩
  | .local _ .vmem, ⟨1, _⟩ => ⟨S12800x8192, .fp8e4m3⟩
  | .local _ .vmem, ⟨2, _⟩ => ⟨S400x8192, .i8⟩
  | .local _ .vmem, ⟨3, _⟩ => ⟨S8192, .f32⟩
  | .local _ .vmem, ⟨4, _⟩ => ⟨S6656x8192, .fp8e4m3⟩
  | .local _ .vmem, ⟨5, _⟩ => ⟨S6656x256, .i8⟩
  | .local _ .vmem, ⟨6, _⟩ => ⟨S6656x8192, .bf16⟩
  | _, _ => ⟨S6656x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S6656x12800 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12800x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S400x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6656x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6656x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6656x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel.lean ====
abbrev S6656x8192 : Shape := ⟨2, ![6656, 8192]⟩
abbrev S8192x8192 : Shape := ⟨2, ![8192, 8192]⟩
abbrev S256x8192 : Shape := ⟨2, ![256, 8192]⟩
abbrev S8192 : Shape := ⟨1, ![8192]⟩
abbrev S1x8192 : Shape := ⟨2, ![1, 8192]⟩
abbrev S512x8192 : Shape := ⟨2, ![512, 8192]⟩
abbrev S8192x256 : Shape := ⟨2, ![8192, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S32x256 : Shape := ⟨2, ![32, 256]⟩

abbrev nBuf : Space → Nat
  | .hbm => 7
  | .vmem => 11
  | .smem => 0
  | _ => 0

abbrev bufTy : (tb : Table) → Fin (tcTables nBuf tb) → BufTy
  | .hbm, ⟨0, _⟩ => ⟨S6656x8192, .bf16⟩
  | .hbm, ⟨1, _⟩ => ⟨S8192x8192, .fp8e4m3⟩
  | .hbm, ⟨2, _⟩ => ⟨S256x8192, .i8⟩
  | .hbm, ⟨3, _⟩ => ⟨S8192, .f32⟩
  | .hbm, ⟨4, _⟩ => ⟨S256x8192, .i32⟩
  | .hbm, ⟨5, _⟩ => ⟨S1x8192, .f32⟩
  | .hbm, ⟨6, _⟩ => ⟨S6656x8192, .f32⟩
  | .local _ .vmem, ⟨0, _⟩ => ⟨S512x8192, .bf16⟩
  | .local _ .vmem, ⟨1, _⟩ => ⟨S512x8192, .bf16⟩
  | .local _ .vmem, ⟨2, _⟩ => ⟨S8192x256, .fp8e4m3⟩
  | .local _ .vmem, ⟨3, _⟩ => ⟨S8192x256, .fp8e4m3⟩
  | .local _ .vmem, ⟨4, _⟩ => ⟨S256x256, .i32⟩
  | .local _ .vmem, ⟨5, _⟩ => ⟨S256x256, .i32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S8192x256, .bf16⟩
  | _, _ => ⟨S6656x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 32], ![false, false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v12 : BitVec 32 := Scalar.muli arg8 c32_i32
  v12
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v14 : Index := Scalar.indexCast arg8
  let c0_12 : Index := 0#32
  ![v14.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v12 : BitVec 32 := Scalar.muli arg8 c32_i32
  let v13 : BitVec 32 := v12
  let v25 : Index := Scalar.indexCast v13
  let c0_13 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S6656x8192 : Shape := ⟨2, ![6656, 8192]⟩
abbrev S8192x8192 : Shape := ⟨2, ![8192, 8192]⟩
abbrev S256x8192 : Shape := ⟨2, ![256, 8192]⟩
abbrev S8192 : Shape := ⟨1, ![8192]⟩
abbrev S256x32x8192 : Shape := ⟨3, ![256, 32, 8192]⟩
abbrev S256x1x8192 : Shape := ⟨3, ![256, 1, 8192]⟩
abbrev S1x8192 : Shape := ⟨2, ![1, 8192]⟩

abbrev nBuf : Space → Nat
  | .hbm => 5
  | .vmem => 5
  | .smem => 0
  | _ => 0

abbrev bufTy : (tb : Table) → Fin (tcTables nBuf tb) → BufTy
  | .hbm, ⟨0, _⟩ => ⟨S6656x8192, .bf16⟩
  | .hbm, ⟨1, _⟩ => ⟨S8192x8192, .fp8e4m3⟩
  | .hbm, ⟨2, _⟩ => ⟨S256x8192, .i8⟩
  | .hbm, ⟨3, _⟩ => ⟨S8192, .f32⟩
  | .hbm, ⟨4, _⟩ => ⟨S6656x8192, .f32⟩
  | .local _ .vmem, ⟨0, _⟩ => ⟨S6656x8192, .bf16⟩
  | .local _ .vmem, ⟨1, _⟩ => ⟨S8192x8192, .fp8e4m3⟩
  | .local _ .vmem, ⟨2, _⟩ => ⟨S256x8192, .i8⟩
  | .local _ .vmem, ⟨3, _⟩ => ⟨S8192, .f32⟩
  | .local _ .vmem, ⟨4, _⟩ => ⟨S6656x8192, .f32⟩
  | _, _ => ⟨S6656x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6656x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6656x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scale.lean ====
/- The weight scale: what the sixteen bits the kernel builds from an exponent byte denote, and the power of two the
   reference takes of the same byte. -/
module

public import Idealize.ShloMosaic.Lib.Pointwise
public import Idealize.ShloMosaic.Lib.BitcastPair
public import Idealize.ShloMosaic.Lib.Pipeline.ValueKit

@[expose] public section

set_option maxRecDepth 16384

noncomputable section

namespace Cert.Scale

open Idealize.ShloMosaic

/-- The scale an exponent byte names: two to the byte less 127. -/
def scale (b : BitVec 8) : EReal := Ideal.exp2 (((b.toNat : ℝ) : EReal) - ((127 : ℝ) : EReal))

/-- The reference's spelling: the byte widened to a word, converted, less the number 127, as an exponent of two. -/
theorem scale_word (b : BitVec 8) :
    FloatOps.exp2 (F := Ideal) (φ := .f32) (FloatOps.sitofp (F := Ideal) .f32 (BitVec.setWidth 32 b) - Ideal.ofBits .f32 1123942400#32)
      = scale b := by
  have h : (BitVec.setWidth 32 b).toInt = (b.toNat : ℤ) := by
    rw [BitVec.toInt_eq_toNat_of_lt (by rw [BitVec.toNat_setWidth]; omega), BitVec.toNat_setWidth]
    omega
  have hc : Ideal.ofBits .f32 1123942400#32 = ((127 : ℝ) : EReal) := by
    have hs : ((1123942400#32 : BitVec 32).extractLsb' 31 1 == 1#1) = false := by decide
    have he : ((1123942400#32 : BitVec 32).extractLsb' 23 8).toNat = 133 := by decide
    have hf : ((1123942400#32 : BitVec 32).extractLsb' 0 23).toNat = 8257536 := by decide
    show Ideal.ieee 8 23 (1123942400#32) = _
    unfold Ideal.ieee
    simp only [Nat.reduceAdd, hs, he, hf]
    rw [if_neg (by omega), if_neg (by omega)]
    congr 1
    norm_num
  rw [hc]
  show Ideal.exp2 ((((BitVec.setWidth 32 b).toInt : ℝ) : EReal) - _) = _
  rw [h]
  rfl

/-- The word the kernel builds of an exponent, its low and its high half: the exponent at bit 7. -/
theorem halves : ∀ b : BitVec 8, ∀ q : Fin 2,
    ((BitVec.setWidth 32 b <<< 7 ||| BitVec.setWidth 32 b <<< 23).extractLsb' (16 * q.val) 16 : BitVec 16)
      = BitVec.setWidth 16 b <<< 7 := by decide +kernel

/-- The exponent field of those sixteen bits is the byte, their sign and fraction zero. -/
theorem fields : ∀ b : BitVec 8, ((BitVec.setWidth 16 b <<< 7).extractLsb' 15 1 == 1#1) = false
    ∧ ((BitVec.setWidth 16 b <<< 7).extractLsb' 7 8).toNat = b.toNat
    ∧ ((BitVec.setWidth 16 b <<< 7).extractLsb' 0 7).toNat = 0 := by decide +kernel

/-- The scale as a real number. -/
theorem scale_eq (b : BitVec 8) : scale b = (((2 : ℝ) ^ ((b.toNat : ℤ) - 127) : ℝ) : EReal) := by
  unfold scale
  rw [← EReal.coe_sub]
  show ((Real.rpow 2 ((b.toNat : ℝ) - 127) : ℝ) : EReal) = _
  congr 1
  rw [Real.rpow_eq_pow, ← Real.rpow_intCast]
  congr 1
  push_cast
  rfl

/-- Away from 0 and 255 the bits, read as a bfloat16, denote the scale. -/
theorem ofBits_scale (b : BitVec 8) (h1 : 1 ≤ b.toNat) (h2 : b.toNat ≤ 254) :
    Ideal.ofBits .bf16 (BitVec.setWidth 16 b <<< 7) = scale b := by
  obtain ⟨hs, he, hf⟩ := fields b
  rw [scale_eq]
  show Ideal.ieee 8 7 (BitVec.setWidth 16 b <<< 7) = _
  unfold Ideal.ieee
  simp only [Nat.reduceAdd, hs, he, hf]
  rw [if_neg (by omega), if_neg (by omega)]
  congr 1
  rw [show ((b.toNat : ℤ) - (2 ^ (8 - 1) - 1) - ((7 : ℕ) : ℤ)) = ((b.toNat : ℤ) - 127) + (-7) by norm_num; ring,
    zpow_add₀ (by norm_num)]
  norm_num
  ring

end Cert.Scale

end
-- ==== Proof.Block.lean ====
/- What one block of the kernel computes: the 32 weight rows one trip of its loop rescales, the product, the bias. -/
module

public import proofs.«01_k».proof.Proof.Scale
public import proofs.«01_k».proof.Proof.Gen.KernelIdeal.Skeleton

@[expose] public section

set_option maxRecDepth 16384

noncomputable section

namespace Cert.KernelIdeal.Block

open Idealize.ShloMosaic Cert.KernelIdeal Cert.KernelIdeal.Gen Cert.Scale

/-- One trip's payload: the trip's weight rows, each column times the number its exponent word denotes. -/
theorem pay1_at (e : Vec Ideal S1x256 .i32) (w : FVec Ideal S32x256 .fp8e4m3) (r : Fin 32) (l : Fin 256) (b : BitVec 8)
    (hb : e (ix2 0 l) = BitVec.setWidth 32 b) (h1 : 1 ≤ b.toNat) (h2 : b.toNat ≤ 254) :
    k0_pay1 (F := Ideal) e w (ix2 r l) = w (ix2 r l) * scale b := by
  pointwise [k0_pay1]
  rw [bitcast_32_16]
  pointwise
  have hcol : bitcasts_S16x256_w32_S32x256_w16.srcIdx (ix2 r l) (r.val / 2) (by intro a ha; match a, ha with | 0, _ => (have := r.isLt; show r.val / 2 < 16; omega)) 1 = l := rfl
  have h := halves b ⟨r.val % 2, Nat.mod_lt _ (by norm_num)⟩
  have e2 : (bitcasts_S16x256_w32_S32x256_w16.srcIdx (ix2 r l) (r.val / 2) (by intro a ha; match a, ha with | 0, _ => (have := r.isLt; show r.val / 2 < 16; omega))) 1 = l := hcol
  simp only [e2, hb]
  refine congrArg (w (ix2 r l) * ·) (Eq.trans (congrArg _ ?_) (ofBits_scale b h1 h2))
  exact h

/-- The product payload. -/
theorem pay2_at (a : FVec Ideal S512x8192 .bf16) (w : FVec Ideal S8192x256 .bf16) (r : Fin 512) (l : Fin 256) :
    k0_pay2 (F := Ideal) a w (ix2 r l) = ∑ k : Fin 8192, a (ix2 r k) * w (ix2 k l) := by
  pointwise [k0_pay2]

/-- The bias payload. -/
theorem pay3_at (o : FVec Ideal S512x256 .f32) (b : FVec Ideal S1x256 .f32) (r : Fin 512) (l : Fin 256) :
    k0_pay3 (F := Ideal) o b (ix2 r l) = o (ix2 r l) + b (ix2 0 l) := by
  pointwise [k0_pay3]

end Cert.KernelIdeal.Block

end
-- ==== Proof.Rows.lean ====
/- What the kernel's loop leaves in its scratch memory: every weight times the scale of its block of 32 rows. -/
module

public import proofs.«01_k».proof.Proof.Block
public import proofs.«01_k».proof.Proof.Gen.KernelIdeal.Value

@[expose] public section

set_option maxRecDepth 16384

noncomputable section

namespace Cert.KernelIdeal.Rows

open Idealize.ShloMosaic Idealize.ShloMosaic.TcCoe Idealize.SL.Sem Cert.KernelIdeal Cert.KernelIdeal.Gen Cert.Scale
open Cert.KernelIdeal.Block

variable (𝒱 : Variants) (c : Dev nD) (bd : Option 𝒱.V) (i : grid0.Coords) (arg2 : Memref sig .tc .vmem S512x8192 .bf16) (harg2 : arg2.IsWhole) (arg3 : Memref sig .tc .vmem S8192x256 .fp8e4m3) (harg3 : arg3.IsWhole) (arg4 : Memref sig .tc .vmem S256x256 .i32) (harg4 : arg4.IsWhole) (arg5 : Memref sig .tc .vmem S1x256 .f32) (harg5 : arg5.IsWhole) (arg6 : Memref sig .tc .vmem S512x256 .f32) (harg6 : arg6.IsWhole) (arg7 : Memref sig .tc .vmem S8192x256 .bf16) (harg7 : arg7.IsWhole)

/-- The number of trips. -/
theorem trips_eq : k0_t1_loop.trips = 256 := by decide +kernel

/-- Trip `k` reads row `k` of the exponents. -/
theorem off1 : ∀ k : Fin k0_t1_loop.trips, k0_off1 k 0 = k.val ∧ k0_off1 k 1 = 0 := by decide +kernel

/-- Trip `k` reads and writes the 32 weight rows from row `32 k`. -/
theorem off2 : ∀ k : Fin k0_t1_loop.trips, k0_off2 k 0 = 32 * k.val ∧ k0_off2 k 1 = 0 := by decide +kernel

/-- One trip's store: one piece, its payload computed of the trip's exponent row and weight rows. -/
theorem trip_eq (X_arg3 : BufTy.Contents (Elt Ideal) arg3.view.ty) (X_arg4 : BufTy.Contents (Elt Ideal) arg4.view.ty) (k : Fin k0_t1_loop.trips) :
    tripL_k0_t1 (F := Ideal) 𝒱 c bd i arg2 harg2 arg3 harg3 arg4 harg4 arg5 harg5 arg6 harg6 arg7 harg7 X_arg3 X_arg4 k
    = [⟨Rect.unit (s := S8192x256) (k0_off2 k) S32x256.size (k0_off2_inb k), k0_pay1 (arg4.view.readAt (Elt Ideal) (Rect.unit (s := S256x256) (k0_off1 k) S1x256.size (k0_off1_inb k)).toLoadRect X_arg4) (arg3.view.readAt (Elt Ideal) (Rect.unit (s := S8192x256) (k0_off2 k) S32x256.size (k0_off2_inb k)).toLoadRect X_arg3)⟩] := by
  unfold tripL_k0_t1 trip_k0_t1
  rfl

variable (X1 : S8192x256.Idx → Elt Ideal .fp8e4m3) (X2 : S256x256.Idx → Elt Ideal .i32) (B : Fin 256 → Fin 256 → BitVec 8)

/-- The rescaled weights: weight times the scale of its block of 32 rows. -/
def weights : S8192x256.Idx → Elt Ideal .bf16 := fun y =>
  (X1 y : EReal) * scale (B ⟨(y 0).val / 32, by have : (y 0).val < 8192 := (y 0).isLt; omega⟩ (y 1))

/-- A trip's payload agrees with the rescaled weights at the rows it is stored at. -/
theorem trip_weights (hX : ∀ g l, X2 (ix2 g l) = BitVec.setWidth 32 (B g l)) (h1 : ∀ g l, 1 ≤ (B g l).toNat) (h2 : ∀ g l, (B g l).toNat ≤ 254)
    (k : Fin k0_t1_loop.trips) (x : (Rect.unit (s := S8192x256) (k0_off2 k) S32x256.size (k0_off2_inb k)).shape.Idx) :
    k0_pay1 (F := Ideal) (View.ld X2 (Rect.unit (s := S256x256) (k0_off1 k) S1x256.size (k0_off1_inb k)))
      (View.ld X1 (Rect.unit (s := S8192x256) (k0_off2 k) S32x256.size (k0_off2_inb k))) x
    = weights X1 B ((Rect.unit (s := S8192x256) (k0_off2 k) S32x256.size (k0_off2_inb k)).emb x) := by
  obtain ⟨r, l, rfl⟩ : ∃ (r : Fin 32) (l : Fin 256), x = ix2 r l := ⟨x 0, x 1, by funext a; match a with | 0 => rfl | 1 => rfl⟩
  have hk : k.val < 256 := trips_eq ▸ k.isLt
  have hr := r.isLt
  have e1 : (Rect.unit (s := S256x256) (k0_off1 k) S1x256.size (k0_off1_inb k)).idx (ix2 (0 : Fin 1) l) = ix2 (⟨k.val, hk⟩ : Fin 256) l := by
    funext a; apply Fin.ext; rw [Rect.idx_unit_val]
    match a with
    | 0 => show k0_off1 k 0 + 0 = k.val; rw [(off1 k).1]; rfl
    | 1 => show k0_off1 k 1 + l.val = l.val; rw [(off1 k).2]; omega
  have e2 : (Rect.unit (s := S8192x256) (k0_off2 k) S32x256.size (k0_off2_inb k)).idx (ix2 r l) = ix2 (⟨32 * k.val + r.val, by omega⟩ : Fin 8192) l := by
    funext a; apply Fin.ext; rw [Rect.idx_unit_val]
    match a with
    | 0 => show k0_off2 k 0 + r.val = _; rw [(off2 k).1]; rfl
    | 1 => show k0_off2 k 1 + l.val = l.val; rw [(off2 k).2]; omega
  refine (pay1_at _ _ r l (B ⟨k.val, hk⟩ l) ?_ (h1 _ _) (h2 _ _)).trans ?_
  · exact (congrArg X2 e1).trans (hX _ _)
  · show (X1 ((Rect.unit (s := S8192x256) (k0_off2 k) S32x256.size (k0_off2_inb k)).idx (ix2 r l)) : EReal) * _
      = weights X1 B ((Rect.unit (s := S8192x256) (k0_off2 k) S32x256.size (k0_off2_inb k)).idx (ix2 r l))
    rw [e2]
    unfold weights
    congr 2
    exact congrArg (B · l) (Fin.ext (by show k.val = (32 * k.val + r.val) / 32; omega))

/-- All the pieces the loop has stored agree with the rescaled weights. -/
theorem pieces (hX : ∀ g l, X2 (ix2 g l) = BitVec.setWidth 32 (B g l)) (h1 : ∀ g l, 1 ≤ (B g l).toNat) (h2 : ∀ g l, (B g l).toNat ≤ 254) :
    ∀ n : ℕ, n ≤ k0_t1_loop.trips → ∀ p ∈ pb_k0_t1 (F := Ideal) 𝒱 c bd i arg2 harg2 arg3 harg3 arg4 harg4 arg5 harg5 arg6 harg6 arg7 harg7 (harg3.unread X1) (harg4.unread X2) n,
      ∀ x, p.2 x = weights X1 B (p.1.emb x)
  | 0, _, p, hp, _ => absurd hp List.not_mem_nil
  | n + 1, hn, p, hp, x => by
    rw [pb_k0_t1_succ 𝒱 c bd i arg2 harg2 arg3 harg3 arg4 harg4 arg5 harg5 arg6 harg6 arg7 harg7 _ _ ⟨n, hn⟩, trip_eq, List.mem_append, List.mem_singleton] at hp
    rcases hp with rfl | hp
    · show k0_pay1 (F := Ideal) (View.ld (arg4.view.read (Elt Ideal) (harg4.unread X2)) (Rect.unit (s := S256x256) (k0_off1 ⟨n, hn⟩) S1x256.size (k0_off1_inb ⟨n, hn⟩)))
          (View.ld (arg3.view.read (Elt Ideal) (harg3.unread X1)) (Rect.unit (s := S8192x256) (k0_off2 ⟨n, hn⟩) S32x256.size (k0_off2_inb ⟨n, hn⟩))) x = _
      rw [harg4.read_unread, harg3.read_unread]
      exact trip_weights X1 X2 B hX h1 h2 ⟨n, hn⟩ x
    · exact pieces hX h1 h2 n (by omega) p hp x

/-- Every row below `32 n` has been stored by trip `n`. -/
theorem covered (X_arg3 : BufTy.Contents (Elt Ideal) arg3.view.ty) (X_arg4 : BufTy.Contents (Elt Ideal) arg4.view.ty) :
    ∀ n : ℕ, n ≤ k0_t1_loop.trips → ∀ y : S8192x256.Idx, (y 0).val < 32 * n →
      ∃ p ∈ pb_k0_t1 (F := Ideal) 𝒱 c bd i arg2 harg2 arg3 harg3 arg4 harg4 arg5 harg5 arg6 harg6 arg7 harg7 X_arg3 X_arg4 n, y ∈ p.1.set
  | 0, _, y, hy => absurd hy (by omega)
  | n + 1, hn, y, hy => by
    rw [pb_k0_t1_succ 𝒱 c bd i arg2 harg2 arg3 harg3 arg4 harg4 arg5 harg5 arg6 harg6 arg7 harg7 _ _ ⟨n, hn⟩, trip_eq]
    by_cases h : (y 0).val < 32 * n
    · obtain ⟨p, hp, hm⟩ := covered X_arg3 X_arg4 n (by omega) y h
      exact ⟨p, List.mem_append_right _ hp, hm⟩
    · refine ⟨_, List.mem_append_left _ (List.mem_singleton.mpr rfl), ?_⟩
      have hl : (y 1).val < 256 := (y 1).isLt
      rw [Rect.mem_set_unit]
      intro a
      match a with
      | 0 => show k0_off2 ⟨n, hn⟩ 0 ≤ (y 0).val ∧ (y 0).val < k0_off2 ⟨n, hn⟩ 0 + 32; rw [(off2 ⟨n, hn⟩).1]; constructor <;> (dsimp only; omega)
      | 1 => show k0_off2 ⟨n, hn⟩ 1 ≤ (y 1).val ∧ (y 1).val < k0_off2 ⟨n, hn⟩ 1 + 256; rw [(off2 ⟨n, hn⟩).2]; omega

/-- The scratch memory after the loop holds the rescaled weights. -/
theorem scratch (hX : ∀ g l, X2 (ix2 g l) = BitVec.setWidth 32 (B g l)) (h1 : ∀ g l, 1 ≤ (B g l).toNat) (h2 : ∀ g l, (B g l).toNat ≤ 254)
    (v : View sig .tc .vmem S8192x256 .bf16) (n : ℕ) (hn : n = k0_t1_loop.trips)
    (inb : ∀ a, (![0, 0] : Fin 2 → ℕ) a + (![8192, 256] : Fin 2 → ℕ) a ≤ S8192x256.size a) :
    v.readCov (pb_k0_t1 (F := Ideal) 𝒱 c bd i arg2 harg2 arg3 harg3 arg4 harg4 arg5 harg5 arg6 harg6 arg7 harg7 (harg3.unread X1) (harg4.unread X2) n)
      (Rect.unit (s := S8192x256) ![0, 0] ![8192, 256] inb).toLoadRect = weights X1 B := by
  rw [View.readCov_eq_canon']
  funext y
  have hy : (Rect.unit (s := S8192x256) ![0, 0] ![8192, 256] inb).idx y = y := by
    funext a; apply Fin.ext; rw [Rect.idx_unit_val]
    match a with
    | 0 => exact Nat.zero_add _
    | 1 => exact Nat.zero_add _
  show View.canon _ ((Rect.unit (s := S8192x256) ![0, 0] ![8192, 256] inb).idx y) = _
  rw [hy]
  refine View.canon_apply_of_pieces (weights X1 B) _ (pieces 𝒱 c bd i arg2 harg2 arg3 harg3 arg4 harg4 arg5 harg5 arg6 harg6 arg7 harg7 X1 X2 B hX h1 h2 n hn.le) y
    (covered 𝒱 c bd i arg2 harg2 arg3 harg3 arg4 harg4 arg5 harg5 arg6 harg6 arg7 harg7 _ _ n hn.le y ?_)
  have h0 : (y 0).val < 8192 := (y 0).isLt
  rw [hn, trips_eq]; omega

end Cert.KernelIdeal.Rows

end
-- ==== Proof.Array.lean ====
/- What the kernel's result array holds. -/
module

public import proofs.«01_k».proof.Proof.Rows

@[expose] public section

set_option maxRecDepth 16384

noncomputable section

namespace Cert.KernelIdeal.Array

open Idealize.ShloMosaic Idealize.ShloMosaic.TcCoe Idealize.SL.Sem Cert.KernelIdeal Cert.KernelIdeal.Gen Cert.Scale
open Cert.KernelIdeal.Block
open Idealize.ShloMosaic.Pipeline (Dat)

variable (m : (ℓ : Loc nD τ sig) → Buf (Elt Ideal) ℓ)

theorem idx : ∀ t : Fin cfg0.N,
    win0_0.index t = ![t.val / 32, 0] ∧ win0_1.index t = ![0, t.val % 32] ∧ win0_2.index t = ![0, t.val % 32]
      ∧ win0_3.index t = ![0, t.val % 32] ∧ win0_4.index t = ![t.val / 32, t.val % 32] :=
  (by decide +kernel : ∀ t : Fin grid0.N, _)

/-- What an element of the result is to be: a row of the activations against a column of the rescaled weights, and the bias. -/
def out (a : FVec Ideal S6656x8192 .bf16) (w : FVec Ideal S8192x8192 .fp8e4m3) (e : IVec S256x8192 8) (b : FVec Ideal S8192 .f32)
    (i : Fin 6656) (l : Fin 8192) : EReal :=
  (∑ k : Fin 8192, a (ix2 i k) * (w (ix2 k l) * scale (e (ix2 ⟨k.val / 32, by omega⟩ l)))) + b (ix1 l)

/-- The exponents as the call receives them: each byte widened to a word. -/
theorem entry_exp (c : Dev nD) (i : Fin 256) (l : Fin 8192) :
    V m c main_v0 (ix2 i l) = BitVec.setWidth 32 (m ((c : Thread nD τ).loc main_arg2) (ix2 i l)) := by
  entry_read
  rfl

/-- The bias as the call receives it: as one row. -/
theorem entry_bias (c : Dev nD) (l : Fin 8192) :
    V m c main_v1 (ix2 0 l) = m ((c : Thread nD τ).loc main_arg3) (ix1 l) := by
  entry_read
  pointwise

/-- The result array: every element is the element of the product with the rescaled weights, the bias added. -/
theorem final (c : Dev nD) (hr : ∀ (g : Fin 256) (l : Fin 8192), 1 ≤ ((m ((c : Thread nD τ).loc main_arg2) (ix2 g l) : BitVec 8)).toNat
      ∧ ((m ((c : Thread nD τ).loc main_arg2) (ix2 g l) : BitVec 8)).toNat ≤ 254) :
    (dats m 0 c).arrAt 4 cfg0.N = fun y => out (m ((c : Thread nD τ).loc main_arg0)) (m ((c : Thread nD τ).loc main_arg1))
      (m ((c : Thread nD τ).loc main_arg2)) (m ((c : Thread nD τ).loc main_arg3)) (y 0) (y 1) := by
  refine (dats m 0 c).arrAt_eq_of_covers 4 (fun y => out (m ((c : Thread nD τ).loc main_arg0)) (m ((c : Thread nD τ).loc main_arg1))
      (m ((c : Thread nD τ).loc main_arg2)) (m ((c : Thread nD τ).loc main_arg3)) (y 0) (y 1)) (by decide +kernel) fun t hf y => ?_
  blk_simp
  rw [after0_4]
  unfold outsAt0
  frame_out
  have ht : t.val < 416 := t.isLt
  have e2 : ∀ (g l : Fin 256), iblk m c 2 t (ix2 g l) = BitVec.setWidth 32 (m ((c : Thread nD τ).loc main_arg2) (ix2 g (⟨t.val % 32 * 256 + l.val, by omega⟩ : Fin 8192))) := by
    intro g l
    rw [← entry_exp]
    blk_ext [iblk, idx t]
  rw [Rows.scratch Variants.none c none (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 1 t) (iblk m c 2 t)
    (fun g l => m ((c : Thread nD τ).loc main_arg2) (ix2 g (⟨t.val % 32 * 256 + l.val, by omega⟩ : Fin 8192))) e2
    (fun g l => (hr g _).1) (fun g l => (hr g _).2) (View.whole cc0_scratch0) (Scf.trips (0#32) (Scalar.addi 0#32 256#32) 1#32) rfl]
  idx_vars y
  refine (pay3_at _ _ y0 y1).trans ?_
  rw [pay2_at]
  unfold out Rows.weights
  refine congrArg₂ (fun p q : EReal => p + q) (Finset.sum_congr rfl fun k _ => congrArg₂ (fun p q : EReal => p * q) ?_ (congrArg₂ (fun p q : EReal => p * q) ?_ (congrArg scale ?_))) ?_
  · blk_ext [iblk, V, idx t]
  · blk_ext [iblk, V, idx t]
  · blk_ext [iblk, V, idx t]
  · refine Eq.trans ?_ (entry_bias m c _)
    blk_ext [iblk, idx t]

end Cert.KernelIdeal.Array

end
-- ==== Proof.Written.lean ====
/- What the reference computes, read at one index. -/
module

public import proofs.«01_k».proof.Proof.Scale
public import proofs.«01_k».proof.Proof.Gen.ReferenceIdeal.Skeleton

@[expose] public section

set_option maxRecDepth 16384

noncomputable section

namespace Cert.ReferenceIdeal.Written

open Idealize.ShloMosaic Cert.ReferenceIdeal Cert.ReferenceIdeal.Gen Cert.Scale

/-- The reference's result at row `r`, column `l`: the sum over the features of activation times rescaled weight, plus the bias. -/
theorem pay_at (e : Vec Ideal S256x8192 .i8) (w : FVec Ideal S8192x8192 .fp8e4m3) (a : FVec Ideal S6656x8192 .bf16)
    (b : FVec Ideal S8192 .f32) (r : Fin 6656) (l : Fin 8192) :
    k0_pay1 (F := Ideal) e w a b (ix2 r l)
      = (∑ k : Fin 8192, a (ix2 r k) * (w (ix2 k l) * scale (e (ix2 ⟨k.val / 32, by omega⟩ l)))) + b (ix1 l) := by
  pointwise [k0_pay1]
  refine congrArg (· + _) (Finset.sum_congr rfl fun k _ => ?_)
  rw [scale_word]

end Cert.ReferenceIdeal.Written

end
-- ==== Proof.HiddenBlock.lean ====
/- What one block of the kernel computes: the 32 weight rows one trip of its loop rescales, the product, the bias. -/
module

public import proofs.«01_k».proof.Proof.Scale
public import proofs.«01_k».proof.Proof.Gen.HiddenIdeal.Skeleton

@[expose] public section

set_option maxRecDepth 16384

noncomputable section

namespace Cert.HiddenIdeal.Block

open Idealize.ShloMosaic Cert.HiddenIdeal Cert.HiddenIdeal.Gen Cert.Scale

/-- One trip's payload: the trip's weight rows, each column times the number its exponent word denotes. -/
theorem pay141_at (e : Vec Ideal S1x256 .i32) (w : FVec Ideal S32x256 .fp8e4m3) (r : Fin 32) (l : Fin 256) (b : BitVec 8)
    (hb : e (ix2 0 l) = BitVec.setWidth 32 b) (h1 : 1 ≤ b.toNat) (h2 : b.toNat ≤ 254) :
    k0_pay141 (F := Ideal) e w (ix2 r l) = w (ix2 r l) * scale b := by
  pointwise [k0_pay141]
  rw [bitcast_32_16]
  pointwise
  have hcol : bitcasts_S16x256_w32_S32x256_w16.srcIdx (ix2 r l) (r.val / 2) (by intro a ha; match a, ha with | 0, _ => (have := r.isLt; show r.val / 2 < 16; omega)) 1 = l := rfl
  have h := halves b ⟨r.val % 2, Nat.mod_lt _ (by norm_num)⟩
  have e2 : (bitcasts_S16x256_w32_S32x256_w16.srcIdx (ix2 r l) (r.val / 2) (by intro a ha; match a, ha with | 0, _ => (have := r.isLt; show r.val / 2 < 16; omega))) 1 = l := hcol
  simp only [e2, hb]
  refine congrArg (w (ix2 r l) * ·) (Eq.trans (congrArg _ ?_) (ofBits_scale b h1 h2))
  exact h

/-- The product payload. -/
theorem pay142_at (a : FVec Ideal S512x12800 .bf16) (w : FVec Ideal S12800x256 .bf16) (r : Fin 512) (l : Fin 256) :
    k0_pay142 (F := Ideal) a w (ix2 r l) = ∑ k : Fin 12800, a (ix2 r k) * w (ix2 k l) := by
  pointwise [k0_pay142]

end Cert.HiddenIdeal.Block

end
-- ==== Proof.HiddenRows.lean ====
/- What the first product's loop over the weights leaves in its scratch memory: every weight times the scale of its block of 32 rows. -/
module

public import proofs.«01_k».proof.Proof.HiddenBlock
public import Idealize.ShloMosaic.Lib.Pipeline.CanonAppend
public import proofs.«01_k».proof.Proof.Gen.HiddenIdeal.Value

@[expose] public section

set_option maxRecDepth 16384

noncomputable section

namespace Cert.HiddenIdeal.Rows

open Idealize.ShloMosaic Idealize.ShloMosaic.TcCoe Idealize.SL.Sem Cert.HiddenIdeal Cert.HiddenIdeal.Gen Cert.Scale
open Cert.HiddenIdeal.Block

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

/-- The number of trips. -/
theorem trips_eq : k0_t1_loop.trips = 400 := by decide +kernel

/-- Trip `k` reads row `k` of the exponents. -/
theorem off1 : ∀ k : Fin k0_t1_loop.trips, k0_off1 k 0 = k.val ∧ k0_off1 k 1 = 0 := by decide +kernel

/-- Trip `k` reads and writes the 32 weight rows from row `32 k`. -/
theorem off2 : ∀ k : Fin k0_t1_loop.trips, k0_off2 k 0 = 32 * k.val ∧ k0_off2 k 1 = 0 := by decide +kernel

/-- One trip's store: one piece, its payload computed of the trip's exponent row and weight rows. -/
theorem trip_eq (X_arg3 : BufTy.Contents (Elt Ideal) arg3.view.ty) (X_arg4 : BufTy.Contents (Elt Ideal) arg4.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 X_arg3 X_arg4 k
    = [⟨Rect.unit (s := S12800x256) (k0_off2 k) S32x256.size (k0_off2_inb k), k0_pay141 (arg4.view.readAt (Elt Ideal) (Rect.unit (s := S400x256) (k0_off1 k) S1x256.size (k0_off1_inb k)).toLoadRect X_arg4) (arg3.view.readAt (Elt Ideal) (Rect.unit (s := S12800x256) (k0_off2 k) S32x256.size (k0_off2_inb k)).toLoadRect X_arg3)⟩] := by
  unfold tripL_k0_t1 trip_k0_t1
  rfl

variable (X1 : S12800x256.Idx → Elt Ideal .fp8e4m3) (X2 : S400x256.Idx → Elt Ideal .i32) (B : Fin 400 → Fin 256 → BitVec 8)

/-- The rescaled weights: weight times the scale of its block of 32 rows. -/
def weights : S12800x256.Idx → Elt Ideal .bf16 := fun y =>
  (X1 y : EReal) * scale (B ⟨(y 0).val / 32, by have : (y 0).val < 12800 := (y 0).isLt; omega⟩ (y 1))

/-- A trip's payload agrees with the rescaled weights at the rows it is stored at. -/
theorem trip_weights (hX : ∀ g l, X2 (ix2 g l) = BitVec.setWidth 32 (B g l)) (h1 : ∀ g l, 1 ≤ (B g l).toNat) (h2 : ∀ g l, (B g l).toNat ≤ 254)
    (k : Fin k0_t1_loop.trips) (x : (Rect.unit (s := S12800x256) (k0_off2 k) S32x256.size (k0_off2_inb k)).shape.Idx) :
    k0_pay141 (F := Ideal) (View.ld X2 (Rect.unit (s := S400x256) (k0_off1 k) S1x256.size (k0_off1_inb k)))
      (View.ld X1 (Rect.unit (s := S12800x256) (k0_off2 k) S32x256.size (k0_off2_inb k))) x
    = weights X1 B ((Rect.unit (s := S12800x256) (k0_off2 k) S32x256.size (k0_off2_inb k)).emb x) := by
  obtain ⟨r, l, rfl⟩ : ∃ (r : Fin 32) (l : Fin 256), x = ix2 r l := ⟨x 0, x 1, by funext a; match a with | 0 => rfl | 1 => rfl⟩
  have hk : k.val < 400 := trips_eq ▸ k.isLt
  have hr := r.isLt
  have e1 : (Rect.unit (s := S400x256) (k0_off1 k) S1x256.size (k0_off1_inb k)).idx (ix2 (0 : Fin 1) l) = ix2 (⟨k.val, hk⟩ : Fin 400) l := by
    funext a; apply Fin.ext; rw [Rect.idx_unit_val]
    match a with
    | 0 => show k0_off1 k 0 + 0 = k.val; rw [(off1 k).1]; rfl
    | 1 => show k0_off1 k 1 + l.val = l.val; rw [(off1 k).2]; omega
  have e2 : (Rect.unit (s := S12800x256) (k0_off2 k) S32x256.size (k0_off2_inb k)).idx (ix2 r l) = ix2 (⟨32 * k.val + r.val, by omega⟩ : Fin 12800) l := by
    funext a; apply Fin.ext; rw [Rect.idx_unit_val]
    match a with
    | 0 => show k0_off2 k 0 + r.val = _; rw [(off2 k).1]; rfl
    | 1 => show k0_off2 k 1 + l.val = l.val; rw [(off2 k).2]; omega
  refine (pay141_at _ _ r l (B ⟨k.val, hk⟩ l) ?_ (h1 _ _) (h2 _ _)).trans ?_
  · exact (congrArg X2 e1).trans (hX _ _)
  · show (X1 ((Rect.unit (s := S12800x256) (k0_off2 k) S32x256.size (k0_off2_inb k)).idx (ix2 r l)) : EReal) * _
      = weights X1 B ((Rect.unit (s := S12800x256) (k0_off2 k) S32x256.size (k0_off2_inb k)).idx (ix2 r l))
    rw [e2]
    unfold weights
    congr 2
    exact congrArg (B · l) (Fin.ext (by show k.val = (32 * k.val + r.val) / 32; omega))

/-- All the pieces the loop has stored agree with the rescaled weights. -/
theorem pieces (hX : ∀ g l, X2 (ix2 g l) = BitVec.setWidth 32 (B g l)) (h1 : ∀ g l, 1 ≤ (B g l).toNat) (h2 : ∀ g l, (B g l).toNat ≤ 254) :
    ∀ n : ℕ, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 (harg3.unread X1) (harg4.unread X2) n,
      ∀ x, p.2 x = weights X1 B (p.1.emb x)
  | 0, _, p, hp, _ => absurd hp List.not_mem_nil
  | n + 1, hn, p, hp, x => by
    rw [pb_k0_t1_succ 𝒱 c bd i arg2 harg2 arg3 harg3 arg4 harg4 arg5 harg5 arg6 harg6 arg7 harg7 arg8 harg8 arg9 harg9 arg10 harg10 arg11 harg11 _ _ ⟨n, hn⟩, trip_eq, List.mem_append, List.mem_singleton] at hp
    rcases hp with rfl | hp
    · show k0_pay141 (F := Ideal) (View.ld (arg4.view.read (Elt Ideal) (harg4.unread X2)) (Rect.unit (s := S400x256) (k0_off1 ⟨n, hn⟩) S1x256.size (k0_off1_inb ⟨n, hn⟩)))
          (View.ld (arg3.view.read (Elt Ideal) (harg3.unread X1)) (Rect.unit (s := S12800x256) (k0_off2 ⟨n, hn⟩) S32x256.size (k0_off2_inb ⟨n, hn⟩))) x = _
      rw [harg4.read_unread, harg3.read_unread]
      exact trip_weights X1 X2 B hX h1 h2 ⟨n, hn⟩ x
    · exact pieces hX h1 h2 n (by omega) p hp x

/-- Every row below `32 n` has been stored by trip `n`. -/
theorem covered (X_arg3 : BufTy.Contents (Elt Ideal) arg3.view.ty) (X_arg4 : BufTy.Contents (Elt Ideal) arg4.view.ty) :
    ∀ n : ℕ, n ≤ k0_t1_loop.trips → ∀ y : S12800x256.Idx, (y 0).val < 32 * n →
      ∃ p ∈ pb_k0_t1 (F := Ideal) 𝒱 c bd i arg2 harg2 arg3 harg3 arg4 harg4 arg5 harg5 arg6 harg6 arg7 harg7 arg8 harg8 arg9 harg9 arg10 harg10 arg11 harg11 X_arg3 X_arg4 n, y ∈ p.1.set
  | 0, _, y, hy => absurd hy (by omega)
  | n + 1, hn, y, hy => by
    rw [pb_k0_t1_succ 𝒱 c bd i arg2 harg2 arg3 harg3 arg4 harg4 arg5 harg5 arg6 harg6 arg7 harg7 arg8 harg8 arg9 harg9 arg10 harg10 arg11 harg11 _ _ ⟨n, hn⟩, trip_eq]
    by_cases h : (y 0).val < 32 * n
    · obtain ⟨p, hp, hm⟩ := covered X_arg3 X_arg4 n (by omega) y h
      exact ⟨p, List.mem_append_right _ hp, hm⟩
    · refine ⟨_, List.mem_append_left _ (List.mem_singleton.mpr rfl), ?_⟩
      have hl : (y 1).val < 256 := (y 1).isLt
      rw [Rect.mem_set_unit]
      intro a
      match a with
      | 0 => show k0_off2 ⟨n, hn⟩ 0 ≤ (y 0).val ∧ (y 0).val < k0_off2 ⟨n, hn⟩ 0 + 32; rw [(off2 ⟨n, hn⟩).1]; constructor <;> (dsimp only; omega)
      | 1 => show k0_off2 ⟨n, hn⟩ 1 ≤ (y 1).val ∧ (y 1).val < k0_off2 ⟨n, hn⟩ 1 + 256; rw [(off2 ⟨n, hn⟩).2]; omega

/-- The scratch memory after the loop holds the rescaled weights, whatever was stored before it. -/
theorem scratch (hX : ∀ g l, X2 (ix2 g l) = BitVec.setWidth 32 (B g l)) (h1 : ∀ g l, 1 ≤ (B g l).toNat) (h2 : ∀ g l, (B g l).toNat ≤ 254)
    (v : View sig .tc .vmem S12800x256 .bf16) (L : List (View.Piece (Elt Ideal) S12800x256 .bf16)) (n : ℕ) (hn : n = k0_t1_loop.trips)
    (inb : ∀ a, (![0, 0] : Fin 2 → ℕ) a + (![12800, 256] : Fin 2 → ℕ) a ≤ S12800x256.size a) :
    v.readCov (pb_k0_t1 (F := Ideal) 𝒱 c bd i arg2 harg2 arg3 harg3 arg4 harg4 arg5 harg5 arg6 harg6 arg7 harg7 arg8 harg8 arg9 harg9 arg10 harg10 arg11 harg11 (harg3.unread X1) (harg4.unread X2) n ++ L)
      (Rect.unit (s := S12800x256) ![0, 0] ![12800, 256] inb).toLoadRect = weights X1 B := by
  rw [View.readCov_eq_canon']
  funext y
  have hy : (Rect.unit (s := S12800x256) ![0, 0] ![12800, 256] inb).idx y = y := by
    funext a; apply Fin.ext; rw [Rect.idx_unit_val]
    match a with
    | 0 => exact Nat.zero_add _
    | 1 => exact Nat.zero_add _
  show View.canon _ ((Rect.unit (s := S12800x256) ![0, 0] ![12800, 256] inb).idx y) = _
  rw [hy]
  refine View.canon_append_of_pieces (weights X1 B) L _ (pieces 𝒱 c bd i arg2 harg2 arg3 harg3 arg4 harg4 arg5 harg5 arg6 harg6 arg7 harg7 arg8 harg8 arg9 harg9 arg10 harg10 arg11 harg11 X1 X2 B hX h1 h2 n hn.le) y
    (covered 𝒱 c bd i arg2 harg2 arg3 harg3 arg4 harg4 arg5 harg5 arg6 harg6 arg7 harg7 arg8 harg8 arg9 harg9 arg10 harg10 arg11 harg11 _ _ n hn.le y ?_)
  have h0 : (y 0).val < 12800 := (y 0).isLt
  rw [hn, trips_eq]; omega

end Cert.HiddenIdeal.Rows

end
-- ==== Proof.Lanes.lean ====
/- The vector steps the first product's kernel quantises a tile of eight rows with, named. -/
module

public import proofs.«01_k».proof.Proof.Gen.HiddenIdeal.Skeleton
public import Idealize.ShloMosaic.Lib.Pointwise

@[expose] public section

set_option maxRecDepth 65536

noncomputable section

namespace Cert.HiddenIdeal.Lanes

open Idealize.ShloMosaic Idealize.ShloMosaic.TcCoe Cert.HiddenIdeal Cert.HiddenIdeal.Gen

/-- The activation of a tile: the product's tile plus the bias row, through the Gaussian error function. -/
def gelu (z : Vec Ideal S8x128 .f32) (b : Vec Ideal S1x128 .f32) : FVec Ideal S8x128 .f32 :=
  have u : FVec Ideal S8x128 .f32 := addf z (broadcastTo S8x128 (shapeCast S1x128 b shapeCasts_S1x128_S1x128) broadcasts_S1x128_S8x128)
  mulf (mulf (broadcast S8x128 (Scalar.ofBits .f32 0x3F000000#32)) u)
    (addf (broadcast S8x128 (Scalar.ofBits .f32 0x3F800000#32)) (erf (mulf u (broadcast S8x128 (Scalar.ofBits .f32 0x3F3504F3#32)))))

/-- The lane each lane is exchanged with: the one whose number differs in the bit `s`. -/
def swap (s : BitVec 32) : IVec S8x128 32 :=
  have x : IVec S8x128 32 := xori (iota .tc S8x128 32 [1] iota_S8x128_d1_w32) (broadcast S8x128 s)
  shapeCast S8x128 (shapeCast S8x128x1 (select (cmpi .slt x (broadcast S8x128 0#32)) (addi x (broadcast S8x128 128#32)) x)
    shapeCasts_S8x128_S8x128x1) shapeCasts_S8x128x1_S8x128

/-- The larger of each lane and the one it is exchanged with. -/
def fold (s : BitVec 32) (a : FVec Ideal S8x128 .f32) : FVec Ideal S8x128 .f32 := maximumf a (dynamicGather 1 a (swap s))

/-- The largest magnitude of the 32 lanes each lane belongs to. -/
def amax (a : FVec Ideal S8x128 .f32) : FVec Ideal S8x128 .f32 :=
  fold 1#32 (fold 2#32 (fold 4#32 (fold 8#32 (fold 16#32 (absf a)))))

/-- The magnitude the exponent is taken of: 256 for a block of zeros, kept within 2^-118 to 2^127. -/
def kept (p : FVec Ideal S8x128 .f32) : FVec Ideal S8x128 .f32 :=
  minimumf (broadcast S8x128 (Scalar.ofBits .f32 0x7F000000#32)) (maximumf (broadcast S8x128 (Scalar.ofBits .f32 0x04800000#32))
    (select (cmpf .oeq p (broadcast S8x128 (Scalar.ofBits .f32 0x00000000#32))) (broadcast S8x128 (Scalar.ofBits .f32 0x43800000#32)) p))

/-- One step of the bisection. -/
def half (m : FVec Ideal S8x128 .f32) (s : BitVec 32) (e : IVec S8x128 32) : IVec S8x128 32 :=
  select (cmpf .oge m (bitcastToFloat .f32 (shli (addi e (broadcast S8x128 s)) (broadcast S8x128 23#32)))) (addi e (broadcast S8x128 s)) e

/-- The exponent field of each lane's block. -/
def expo (a : FVec Ideal S8x128 .f32) : IVec S8x128 32 :=
  have m : FVec Ideal S8x128 .f32 := kept (amax a)
  half m 1#32 (half m 2#32 (half m 4#32 (half m 8#32 (half m 16#32 (half m 32#32 (half m 64#32 (half m 128#32 (broadcast S8x128 0#32))))))))

/-- The word that holds the exponents of two tiles. -/
def word (a b : FVec Ideal S8x128 .f32) : IVec S8x128 32 :=
  ori (shli (expo a) (broadcast S8x128 7#32)) (shli (expo b) (broadcast S8x128 23#32))

/-- The first tile's exponent of the word, at its field. -/
def first (w : IVec S8x128 32) : IVec S8x128 32 := andi (shli w (broadcast S8x128 16#32)) (broadcast S8x128 2139095040#32)

/-- The second tile's exponent of the word, at its field. -/
def second (w : IVec S8x128 32) : IVec S8x128 32 := andi w (broadcast S8x128 2139095040#32)

/-- A tile over its scale, kept within the code's range. -/
def quant (a : FVec Ideal S8x128 .f32) (e : IVec S8x128 32) : FVec Ideal S8x128 .f32 :=
  minimumf (broadcast S8x128 (Scalar.ofBits .f32 0x43E00000#32)) (maximumf (broadcast S8x128 (Scalar.ofBits .f32 0xC3E00000#32))
    (mulf a (bitcastToFloat .f32 (subi (broadcast S8x128 2197815296#32) e))))

/-- A tile's scale. -/
def scale (e : IVec S8x128 32) : FVec Ideal S8x128 .f32 := bitcastToFloat .f32 (subi e (broadcast S8x128 67108864#32))

/-- The codes of four tiles, 32 rows. -/
def codes (a0 a1 a2 a3 : FVec Ideal S8x128 .f32) : FVec Ideal S32x128 .fp8e4m3 :=
  truncf .fp8e4m3 (concatenate S32x128 0 [⟨S8x128, quant a0 (first (word a0 a1))⟩, ⟨S8x128, quant a1 (second (word a0 a1))⟩,
    ⟨S8x128, quant a2 (first (word a2 a3))⟩, ⟨S8x128, quant a3 (second (word a2 a3))⟩]
    concatenates_S8x128_S8x128_S8x128_S8x128_S32x128_d0) bitsLt_fp8e4m3_f32

/-- The codes times their scales. -/
def rounded (a0 a1 a2 a3 : FVec Ideal S8x128 .f32) : FVec Ideal S32x128 .bf16 :=
  mulf (extf .bf16 (codes a0 a1 a2 a3) bitsLt_fp8e4m3_bf16)
    (truncf .bf16 (concatenate S32x128 0 [⟨S8x128, scale (first (word a0 a1))⟩, ⟨S8x128, scale (second (word a0 a1))⟩,
      ⟨S8x128, scale (first (word a2 a3))⟩, ⟨S8x128, scale (second (word a2 a3))⟩]
      concatenates_S8x128_S8x128_S8x128_S8x128_S32x128_d0) bitsLt_bf16_f32)

end Cert.HiddenIdeal.Lanes

end
-- ==== Proof.Trip.lean ====
/- What one trip of the kernel's main loop stores: 32 rows of codes and of rounded values, in two column halves. -/
module

public import proofs.«01_k».proof.Proof.Lanes
public import proofs.«01_k».proof.Proof.Gen.HiddenIdeal.Loops

@[expose] public section

set_option maxRecDepth 65536

noncomputable section

namespace Cert.HiddenIdeal.Trip

open Idealize.ShloMosaic Idealize.ShloMosaic.TcCoe Idealize.SL.Sem Cert.HiddenIdeal Cert.HiddenIdeal.Gen Cert.HiddenIdeal.Lanes

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

variable (arg1 : BitVec 32) (v11 : IVec S8x128 32) (X_arg5 : BufTy.Contents (Elt Ideal) arg5.view.ty)
  (X_arg10 : BufTy.Contents (Elt Ideal) arg10.view.ty) (k : Fin k0_t2_loop.trips)

/-- The activations of the eight rows `r` of a trip, in the first 128 columns. -/
def left (r : Fin 4) : FVec Ideal S8x128 .f32 :=
  gelu (arg10.view.readAt (Elt Ideal) (Rect.unit (s := S512x256) (k0_off3 k (BitVec.ofNat 32 (8 * r.val))) S8x128.size (k0_off3_inb k r)).toLoadRect X_arg10)
    (arg5.view.readAt (Elt Ideal) (Rect.unit (s := S1x256) ![0, 0] S1x128.size inb_S1x256_S1x128_0_0).toLoadRect X_arg5)

/-- The activations of the eight rows `r` of a trip, in the last 128 columns. -/
def right (r : Fin 4) : FVec Ideal S8x128 .f32 :=
  gelu (arg10.view.readAt (Elt Ideal) (Rect.unit (s := S512x256) (k0_off6 k (BitVec.ofNat 32 (8 * r.val))) S8x128.size (k0_off6_inb k r)).toLoadRect X_arg10)
    (arg5.view.readAt (Elt Ideal) (Rect.unit (s := S1x256) ![0, 128] S1x128.size inb_S1x256_S1x128_0_128).toLoadRect X_arg5)

/-- A function of four tiles, of the four the first columns hold. -/
abbrev ofLeft {α : Type} (f : FVec Ideal S8x128 .f32 → FVec Ideal S8x128 .f32 → FVec Ideal S8x128 .f32 → FVec Ideal S8x128 .f32 → α) : α :=
  f (left arg5 arg10 X_arg5 X_arg10 k 0) (left arg5 arg10 X_arg5 X_arg10 k 1) (left arg5 arg10 X_arg5 X_arg10 k 2) (left arg5 arg10 X_arg5 X_arg10 k 3)

/-- A function of four tiles, of the four the last columns hold. -/
abbrev ofRight {α : Type} (f : FVec Ideal S8x128 .f32 → FVec Ideal S8x128 .f32 → FVec Ideal S8x128 .f32 → FVec Ideal S8x128 .f32 → α) : α :=
  f (right arg5 arg10 X_arg5 X_arg10 k 0) (right arg5 arg10 X_arg5 X_arg10 k 1) (right arg5 arg10 X_arg5 X_arg10 k 2) (right arg5 arg10 X_arg5 X_arg10 k 3)

variable (f6 : BufTy.Contents (Elt Ideal) arg6.view.ty) (f8 : BufTy.Contents (Elt Ideal) arg8.view.ty) (f11 : BufTy.Contents (Elt Ideal) arg11.view.ty)

/-- The codes a trip stores. -/
theorem trip_codes :
    (tripL_k0_t2 (F := Ideal) 𝒱 c bd i arg2 harg2 arg3 harg3 arg4 harg4 arg5 harg5 arg6 harg6 arg7 harg7 arg8 harg8 arg9 harg9 arg10 harg10 arg11 harg11 arg1 v11 X_arg5 X_arg10 k f6 f8 f11).1
    = [⟨Rect.unit (s := S512x256) (k0_off7 k) S32x128.size (k0_off7_inb k), ofRight arg5 arg10 X_arg5 X_arg10 k codes⟩,
      ⟨Rect.unit (s := S512x256) (k0_off5 k) S32x128.size (k0_off5_inb k), ofLeft arg5 arg10 X_arg5 X_arg10 k codes⟩] := by
  unfold tripL_k0_t2 trip_k0_t2
  rfl

/-- The rounded values a trip stores. -/
theorem trip_rounded :
    (tripL_k0_t2 (F := Ideal) 𝒱 c bd i arg2 harg2 arg3 harg3 arg4 harg4 arg5 harg5 arg6 harg6 arg7 harg7 arg8 harg8 arg9 harg9 arg10 harg10 arg11 harg11 arg1 v11 X_arg5 X_arg10 k f6 f8 f11).2.1
    = [⟨Rect.unit (s := S512x256) (k0_off7 k) S32x128.size (k0_off7_inb k), ofRight arg5 arg10 X_arg5 X_arg10 k rounded⟩,
      ⟨Rect.unit (s := S512x256) (k0_off5 k) S32x128.size (k0_off5_inb k), ofLeft arg5 arg10 X_arg5 X_arg10 k rounded⟩] := by
  unfold tripL_k0_t2 trip_k0_t2
  rfl

end Cert.HiddenIdeal.Trip

end
-- ==== Proof.Exponent.lean ====
/- The exponent of a block: the power of two under its largest magnitude, as the kernel finds it by bisection over the
   exponent field of a float32 and as the reference finds it by a logarithm. -/
module

public import Idealize.ShloMosaic.Lib.Pointwise
public import Idealize.ShloMosaic.Lib.Pipeline.ValueKit
public import Mathlib.Analysis.SpecialFunctions.Log.Basic

@[expose] public section

set_option maxRecDepth 16384

noncomputable section

namespace Cert.Exponent

open Idealize.ShloMosaic

/-- The sign, exponent and fraction fields of a word that holds only an exponent field. -/
theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- A word that holds the exponent field `k`, 1 to 254, is the power of two with that exponent. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  obtain ⟨hs, he, hf⟩ := fields ⟨k, by omega⟩
  show Ideal.ieee 8 23 (BitVec.ofNat 32 k <<< 23) = _
  unfold Ideal.ieee
  simp only [Nat.reduceAdd, hs, he, hf]
  rw [if_neg (by omega), if_neg (by omega), EReal.coe_eq_coe_iff]
  rw [show ((k : ℤ) - (2 ^ (8 - 1) - 1) - ((23 : ℕ) : ℤ)) = ((k : ℤ) - 127) + (-23) by norm_num; ring,
    zpow_add₀ (by norm_num)]
  norm_num
  ring

/-- The exponent field 255 with no fraction is the infinity. -/
theorem ofBits_top : Ideal.ofBits .f32 (BitVec.ofNat 32 255 <<< 23) = ⊤ := by
  obtain ⟨hs, he, hf⟩ := fields ⟨255, by omega⟩
  show Ideal.ieee 8 23 (BitVec.ofNat 32 255 <<< 23) = _
  unfold Ideal.ieee
  simp only [Nat.reduceAdd, hs, he, hf]
  simp

/-- A number kept within 2^-118 to 2^127. -/
def clamp (x : EReal) : EReal :=
  min (Ideal.ofBits .f32 2130706432#32) (max (Ideal.ofBits .f32 75497472#32) x)

/-- The kept number is a real in that range. -/
theorem clamp_real (x : EReal) : ∃ r : ℝ, clamp x = r ∧ (2 : ℝ) ^ (-118 : ℤ) ≤ r ∧ r ≤ (2 : ℝ) ^ (127 : ℤ) := by
  have hlo : Ideal.ofBits .f32 75497472#32 = (((2 : ℝ) ^ (-118 : ℤ) : ℝ) : EReal) := by
    have := ofBits_pow 9 (by omega) (by omega)
    norm_num at this ⊢
    exact this
  have hhi : Ideal.ofBits .f32 2130706432#32 = (((2 : ℝ) ^ (127 : ℤ) : ℝ) : EReal) := by
    have := ofBits_pow 254 (by omega) (by omega)
    norm_num at this ⊢
    exact this
  have hle : (2 : ℝ) ^ (-118 : ℤ) ≤ (2 : ℝ) ^ (127 : ℤ) := zpow_le_zpow_right₀ (by norm_num) (by norm_num)
  unfold clamp
  rw [hlo, hhi]
  induction x using EReal.rec with
  | bot => exact ⟨_, by rw [max_eq_left bot_le, min_eq_right (EReal.coe_le_coe_iff.2 hle)], le_refl _, hle⟩
  | top => exact ⟨_, by rw [max_eq_right le_top, min_eq_left le_top], hle, le_refl _⟩
  | coe r =>
    refine ⟨min ((2 : ℝ) ^ (127 : ℤ)) (max ((2 : ℝ) ^ (-118 : ℤ)) r), ?_, le_min hle (le_max_left _ _), min_le_left _ _⟩
    rw [EReal.coe_strictMono.monotone.map_min, EReal.coe_strictMono.monotone.map_max]

/-- The whole part of the logarithm to base two. -/
def log2 (r : ℝ) : ℤ := ⌊Real.log r * (Real.log 2)⁻¹⌋

/-- A power of two is at most a number when its exponent is at most the logarithm's whole part. -/
theorem le_log2 (k : ℤ) (r : ℝ) (hpos : 0 < r) : (2 : ℝ) ^ k ≤ r ↔ k ≤ log2 r := by
  have hl : 0 < Real.log 2 := Real.log_pos (by norm_num)
  rw [log2, Int.le_floor, ← div_eq_mul_inv, le_div_iff₀ hl, ← Real.log_zpow]
  exact (Real.log_le_log_iff (by positivity) hpos).symm

/-- The exponent field of the kept number. -/
def field (x : EReal) : ℕ := (log2 (clamp x).toReal + 127).toNat

/-- The field is 9 to 254, and is the logarithm's whole part, plus 127. -/
theorem field_range (x : EReal) : 9 ≤ field x ∧ field x ≤ 254 ∧ ((field x : ℕ) : ℤ) = log2 (clamp x).toReal + 127 := by
  obtain ⟨r, hr, h1, h2⟩ := clamp_real x
  have hpos : (0 : ℝ) < r := lt_of_lt_of_le (by positivity) h1
  have a : (-118 : ℤ) ≤ log2 r := (le_log2 _ _ hpos).1 h1
  have b : log2 r < 128 := by
    by_contra h
    have := (le_log2 128 r hpos).2 (by omega)
    exact absurd (this.trans h2) (not_le.2 (zpow_lt_zpow_right₀ (by norm_num) (by norm_num)))
  unfold field
  rw [hr, EReal.toReal_coe]
  omega

/-- A power of two is at most the kept number when its exponent field is at most the number's. -/
theorem pow_le (x : EReal) (k : ℕ) (h1 : 1 ≤ k) (h2 : k ≤ 255) :
    Ideal.ofBits .f32 (BitVec.ofNat 32 k <<< 23) ≤ clamp x ↔ k ≤ field x := by
  obtain ⟨h3, h4, h5⟩ := field_range x
  obtain ⟨r, hr, h6, h7⟩ := clamp_real x
  have hpos : (0 : ℝ) < r := lt_of_lt_of_le (by positivity) h6
  rcases Nat.lt_or_ge k 255 with h | h
  · rw [ofBits_pow k h1 (by omega), hr, EReal.coe_le_coe_iff]
    rw [hr, EReal.toReal_coe] at h5
    rw [le_log2 _ _ hpos]
    omega
  · obtain rfl : k = 255 := by omega
    rw [ofBits_top, hr]
    constructor
    · intro h; exact absurd h (by simp)
    · intro h; omega

/-- One step of the bisection: the power `s` is added to the field when the number is not under the power of two. -/
def step (m : EReal) (e s : BitVec 32) : BitVec 32 :=
  if Ideal.ofBits .f32 ((e + s) <<< 23) ≤ m then e + s else e

/-- The bisection over the eight bits of the field. -/
def bisect (x : EReal) : BitVec 32 :=
  let m := clamp x
  step m (step m (step m (step m (step m (step m (step m (step m 0#32 128#32) 64#32) 32#32) 16#32) 8#32) 4#32) 2#32) 1#32

/-- A step halves the interval the field lies in. -/
theorem step_spec (x : EReal) (e s : ℕ) (hs : 1 ≤ s) (h1 : e ≤ field x) (h2 : field x < e + 2 * s) (h3 : e + 2 * s ≤ 256) :
    ∃ e', step (clamp x) (BitVec.ofNat 32 e) (BitVec.ofNat 32 s) = BitVec.ofNat 32 e'
      ∧ e' ≤ field x ∧ field x < e' + s ∧ e' + s ≤ 256 := by
  unfold step
  rw [← BitVec.ofNat_add]
  by_cases h : e + s ≤ field x
  · rw [if_pos ((pow_le x (e + s) (by omega) (by omega)).2 h)]
    exact ⟨e + s, rfl, h, by omega, by omega⟩
  · rw [if_neg (fun h' => h ((pow_le x (e + s) (by omega) (by omega)).1 h'))]
    exact ⟨e, rfl, h1, by omega, by omega⟩

/-- The bisection finds the field. -/
theorem bisect_eq (x : EReal) : bisect x = BitVec.ofNat 32 (field x) := by
  obtain ⟨_, h, _⟩ := field_range x
  obtain ⟨e1, r1, a1, b1, c1⟩ := step_spec x 0 128 (by omega) (by omega) (by omega) (by omega)
  obtain ⟨e2, r2, a2, b2, c2⟩ := step_spec x e1 64 (by omega) a1 (by omega) (by omega)
  obtain ⟨e3, r3, a3, b3, c3⟩ := step_spec x e2 32 (by omega) a2 (by omega) (by omega)
  obtain ⟨e4, r4, a4, b4, c4⟩ := step_spec x e3 16 (by omega) a3 (by omega) (by omega)
  obtain ⟨e5, r5, a5, b5, c5⟩ := step_spec x e4 8 (by omega) a4 (by omega) (by omega)
  obtain ⟨e6, r6, a6, b6, c6⟩ := step_spec x e5 4 (by omega) a5 (by omega) (by omega)
  obtain ⟨e7, r7, a7, b7, c7⟩ := step_spec x e6 2 (by omega) a6 (by omega) (by omega)
  obtain ⟨e8, r8, a8, b8, c8⟩ := step_spec x e7 1 (by omega) a7 (by omega) (by omega)
  unfold bisect
  rw [show (0#32) = BitVec.ofNat 32 0 from rfl]
  simp only []
  rw [r1, r2, r3, r4, r5, r6, r7, r8]
  congr 1
  omega

/-- The exponent the block is scaled by: eight under the magnitude's, and nothing for a block of zeros. -/
def exponent (amax : EReal) : ℤ := if 0 < amax then (field amax : ℤ) - 135 else 0

/-- The reference's spelling: the whole part of the logarithm to base two, less eight. -/
theorem exponent_log (amax : EReal) :
    (if 0 < amax then Ideal.liftRound Int.floor (Ideal.div (Ideal.log (clamp amax)) ((Real.log 2 : ℝ) : EReal)) - ((8 : ℝ) : EReal) else 0)
      = (((exponent amax : ℤ) : ℝ) : EReal) := by
  unfold exponent
  split
  · obtain ⟨r, hr, h6, h7⟩ := clamp_real amax
    have hpos : (0 : ℝ) < r := lt_of_lt_of_le (by positivity) h6
    obtain ⟨_, _, h5⟩ := field_range amax
    rw [hr, EReal.toReal_coe] at h5
    have hl : Real.log 2 ≠ 0 := (Real.log_pos (by norm_num)).ne'
    rw [hr, Ideal.log_coe, if_neg (not_le.2 hpos), Ideal.div, if_neg (by exact_mod_cast hl), ← EReal.coe_inv, ← EReal.coe_mul]
    show (((log2 r : ℤ) : ℝ) : EReal) - _ = _
    rw [h5, ← EReal.coe_sub]
    congr 1
    push_cast
    ring
  · simp

end Cert.Exponent

end
-- ==== Proof.Quantise.lean ====
/- A block's codes and what they stand for, as numbers, and the words the kernel builds the scales from. -/
module

public import proofs.«01_k».proof.Proof.Exponent
public import proofs.«01_k».proof.Proof.Scale

@[expose] public section

set_option maxRecDepth 16384

noncomputable section

namespace Cert.Quantise

open Idealize.ShloMosaic Cert.Exponent

/-- The activation: half the number times one plus the error function of the number over the root of two. -/
def gelu (u : EReal) : EReal :=
  Ideal.ofBits .f32 1056964608#32 * u * (1 + FloatOps.erf (F := Ideal) (φ := .f32) (u * Ideal.ofBits .f32 1060439283#32))

/-- The largest magnitude of a block of 32. -/
def largest (v : Fin 32 → EReal) : EReal := Finset.univ.sup fun k => max (v k) (-v k)

/-- An activation: a row against a column of the weights times their blocks' scales, the bias added, through `gelu`. -/
def act (a : Fin 6656 → Fin 12800 → EReal) (w : Fin 12800 → Fin 8192 → EReal) (e : Fin 400 → Fin 8192 → BitVec 8) (b : Fin 8192 → EReal)
    (i : Fin 6656) (l : Fin 8192) : EReal :=
  gelu ((∑ k : Fin 12800, a i k * (w k l * Scale.scale (e ⟨k.val / 32, by omega⟩ l))) + b l)

/-- A whole power of two. -/
def pow (z : ℤ) : EReal := (((2 : ℝ) ^ z : ℝ) : EReal)

/-- The code of a number in a block of the given largest magnitude. -/
def code (x a : EReal) : EReal :=
  min (Ideal.ofBits .f32 1138753536#32) (max (Ideal.ofBits .f32 3286237184#32) (x * pow (-exponent a)))

/-- The number the code stands for. -/
def rounded (x a : EReal) : EReal := code x a * pow (exponent a)

/-- The exponential with base two at a whole number. -/
theorem exp2_int (z : ℤ) : FloatOps.exp2 (F := Ideal) (φ := .f32) (((z : ℤ) : ℝ) : EReal) = pow z := by
  show ((Real.rpow 2 ((z : ℤ) : ℝ) : ℝ) : EReal) = _
  rw [Real.rpow_eq_pow, Real.rpow_intCast]
  rfl

/-- The largest magnitude is not negative. -/
theorem largest_nonneg (v : Fin 32 → EReal) : 0 ≤ largest v := by
  have h : max (v 0) (-v 0) ≤ largest v := Finset.le_sup (f := fun k => max (v k) (-v k)) (Finset.mem_univ 0)
  refine le_trans ?_ h
  rcases le_total 0 (v 0) with h | h
  · exact le_max_of_le_left h
  · exact le_max_of_le_right (by simpa using EReal.neg_le_neg_iff.2 h)

/-- The word of the negative infinity. -/
theorem ofBits_bot : Ideal.ofBits .f32 4286578688#32 = ⊥ := by
  have hs : ((4286578688#32 : BitVec 32).extractLsb' 31 1 == 1#1) = true := by decide
  have he : ((4286578688#32 : BitVec 32).extractLsb' 23 8).toNat = 255 := by decide
  have hf : ((4286578688#32 : BitVec 32).extractLsb' 0 23).toNat = 0 := by decide
  show Ideal.ieee 8 23 (4286578688#32) = _
  unfold Ideal.ieee
  simp only [Nat.reduceAdd, hs, he, hf]
  simp

/-- The reduction by the maximum, from the negative infinity. -/
theorem fold_largest (v : Fin 32 → EReal) :
    Finset.fold max (Ideal.ofBits .f32 4286578688#32) (fun k => FloatOps.absf (F := Ideal) (φ := .f32) (v k)) Finset.univ = largest v := by
  rw [ofBits_bot]
  rfl

/-- The exponent field a block is scaled with, 135 for a block of zeros. -/
def fieldOf (a : EReal) : ℕ := if 0 < a then field a else 135

theorem fieldOf_range (a : EReal) : 9 ≤ fieldOf a ∧ fieldOf a ≤ 254 ∧ exponent a = (fieldOf a : ℤ) - 135 := by
  obtain ⟨h1, h2, _⟩ := field_range a
  unfold fieldOf exponent
  split <;> omega

/-- The field of the number 256. -/
theorem field_256 : field (Ideal.ofBits .f32 1132462080#32) = 135 := by
  have h : Ideal.ofBits .f32 1132462080#32 = (((2 : ℝ) ^ (8 : ℤ) : ℝ) : EReal) := by
    have := ofBits_pow 135 (by omega) (by omega)
    norm_num at this ⊢
    exact this
  have hc : clamp (Ideal.ofBits .f32 1132462080#32) = (((2 : ℝ) ^ (8 : ℤ) : ℝ) : EReal) := by
    have hlo : Ideal.ofBits .f32 75497472#32 = (((2 : ℝ) ^ (-118 : ℤ) : ℝ) : EReal) := by
      have := ofBits_pow 9 (by omega) (by omega)
      norm_num at this ⊢
      exact this
    have hhi : Ideal.ofBits .f32 2130706432#32 = (((2 : ℝ) ^ (127 : ℤ) : ℝ) : EReal) := by
      have := ofBits_pow 254 (by omega) (by omega)
      norm_num at this ⊢
      exact this
    unfold clamp
    rw [h, hlo, hhi, max_eq_right (EReal.coe_le_coe_iff.2 (zpow_le_zpow_right₀ (by norm_num) (by norm_num))),
      min_eq_right (EReal.coe_le_coe_iff.2 (zpow_le_zpow_right₀ (by norm_num) (by norm_num)))]
  have hp : (0 : ℝ) < (2 : ℝ) ^ (8 : ℤ) := by positivity
  have a := (le_log2 8 _ hp).1 (le_refl _)
  have b : ¬ 9 ≤ log2 ((2 : ℝ) ^ (8 : ℤ)) := fun h =>
    absurd ((le_log2 9 _ hp).2 h) (not_le.2 (zpow_lt_zpow_right₀ (by norm_num) (by norm_num)))
  obtain ⟨_, _, h5⟩ := field_range (Ideal.ofBits .f32 1132462080#32)
  rw [hc, EReal.toReal_coe] at h5
  omega

/-- The bisection, of a magnitude that is replaced by 256 when it is zero. -/
theorem bisect_fieldOf (a : EReal) (h : 0 ≤ a) :
    bisect (if a = 0 then Ideal.ofBits .f32 1132462080#32 else a) = BitVec.ofNat 32 (fieldOf a) := by
  rw [bisect_eq]
  unfold fieldOf
  by_cases h0 : a = 0
  · rw [if_pos h0, if_neg (by rw [h0]; exact lt_irrefl _), field_256]
  · rw [if_neg h0, if_pos (lt_of_le_of_ne h (Ne.symm h0))]

theorem field_bits : ∀ k : Fin 256,
    ((BitVec.ofNat 32 k.val <<< 7) <<< 16) &&& 2139095040#32 = BitVec.ofNat 32 k.val <<< 23
    ∧ ((BitVec.ofNat 32 k.val <<< 23) <<< 16) &&& 2139095040#32 = 0#32
    ∧ (BitVec.ofNat 32 k.val <<< 7) &&& 2139095040#32 = 0#32
    ∧ (BitVec.ofNat 32 k.val <<< 23) &&& 2139095040#32 = BitVec.ofNat 32 k.val <<< 23
    ∧ (9 ≤ k.val → k.val ≤ 254 → 2197815296#32 - BitVec.ofNat 32 k.val <<< 23 = BitVec.ofNat 32 (262 - k.val) <<< 23)
    ∧ (9 ≤ k.val → BitVec.ofNat 32 k.val <<< 23 - 67108864#32 = BitVec.ofNat 32 (k.val - 8) <<< 23) := by decide +kernel

/-- The low half of a word of two fields, moved to the field of a float32. -/
theorem low_half (j k : ℕ) (hj : j < 256) (hk : k < 256) :
    ((BitVec.ofNat 32 j <<< 7 ||| BitVec.ofNat 32 k <<< 23) <<< 16) &&& 2139095040#32 = BitVec.ofNat 32 j <<< 23 := by
  rw [BitVec.shiftLeft_or_distrib, BitVec.and_comm, BitVec.and_or_distrib_left, BitVec.and_comm, (field_bits ⟨j, hj⟩).1,
    BitVec.and_comm, (field_bits ⟨k, hk⟩).2.1]
  exact BitVec.or_zero

/-- The high half of a word of two fields. -/
theorem high_half (j k : ℕ) (hj : j < 256) (hk : k < 256) :
    (BitVec.ofNat 32 j <<< 7 ||| BitVec.ofNat 32 k <<< 23) &&& 2139095040#32 = BitVec.ofNat 32 k <<< 23 := by
  rw [BitVec.and_comm, BitVec.and_or_distrib_left, BitVec.and_comm, (field_bits ⟨j, hj⟩).2.2.1, BitVec.and_comm,
    (field_bits ⟨k, hk⟩).2.2.2.1]
  exact BitVec.zero_or

/-- The word the numbers are multiplied by. -/
theorem ofBits_over (a : EReal) :
    Ideal.ofBits .f32 (2197815296#32 - BitVec.ofNat 32 (fieldOf a) <<< 23) = pow (-exponent a) := by
  obtain ⟨h1, h2, h3⟩ := fieldOf_range a
  rw [(field_bits ⟨fieldOf a, by omega⟩).2.2.2.2.1 h1 h2, ofBits_pow _ (by show 1 ≤ 262 - fieldOf a; omega) (by show 262 - fieldOf a ≤ 254; omega), h3]
  unfold pow
  rw [show (((262 - fieldOf a : ℕ) : ℤ) - 127) = -((fieldOf a : ℤ) - 135) by omega]

/-- The word of the scale. -/
theorem ofBits_under (a : EReal) :
    Ideal.ofBits .f32 (BitVec.ofNat 32 (fieldOf a) <<< 23 - 67108864#32) = pow (exponent a) := by
  obtain ⟨h1, h2, h3⟩ := fieldOf_range a
  rw [(field_bits ⟨fieldOf a, by omega⟩).2.2.2.2.2 h1, ofBits_pow _ (by show 1 ≤ fieldOf a - 8; omega) (by show fieldOf a - 8 ≤ 254; omega), h3]
  unfold pow
  rw [show (((fieldOf a - 8 : ℕ) : ℤ) - 127) = (fieldOf a : ℤ) - 135 by omega]

/-- The largest of what the lanes of a set of exchanges hold. -/
def over (M : Finset ℕ) (f : ℕ → EReal) (l : ℕ) : EReal := M.sup fun m => f (l ^^^ m)

/-- A step of the exchange widens the set. -/
theorem over_step (M : Finset ℕ) (f : ℕ → EReal) (l s : ℕ) :
    max (over M f l) (over M f (l ^^^ s)) = over (M ∪ M.image (s ^^^ ·)) f l := by
  unfold over
  rw [Finset.sup_union, Finset.sup_image]
  congr 1
  refine Finset.sup_congr rfl fun m _ => ?_
  simp only [Function.comp, Nat.xor_assoc]

/-- Exchanging lanes by a number under 32 stays in the block of 32, and reaches all of it. -/
theorem lanes : ∀ l : Fin 128, ∀ k : Fin 32, l.val ^^^ k.val = 32 * (l.val / 32) + (l.val ^^^ k.val) % 32
    ∧ 32 * (l.val / 32) + k.val = l.val ^^^ ((l.val ^^^ k.val) % 32) := by decide +kernel

/-- The largest over all exchanges is the largest of the block. -/
theorem over_all (f : ℕ → EReal) (l : ℕ) (h : l < 128) :
    over (Finset.range 32) f l = Finset.univ.sup fun k : Fin 32 => f (32 * (l / 32) + k.val) := by
  refine le_antisymm (Finset.sup_le fun m hm => ?_) (Finset.sup_le fun k _ => ?_)
  · rw [(lanes ⟨l, h⟩ ⟨m, Finset.mem_range.1 hm⟩).1]
    exact Finset.le_sup (f := fun k : Fin 32 => f (32 * (l / 32) + k.val)) (Finset.mem_univ ⟨(l ^^^ m) % 32, Nat.mod_lt _ (by omega)⟩)
  · rw [(lanes ⟨l, h⟩ k).2]
    exact Finset.le_sup (f := fun m => f (l ^^^ m)) (Finset.mem_range.2 (Nat.mod_lt _ (by omega)))

end Cert.Quantise

end
-- ==== Proof.Codes.lean ====
/- What the vector steps compute, read at one lane. -/
module

public import proofs.«01_k».proof.Proof.Lanes
public import proofs.«01_k».proof.Proof.Quantise

@[expose] public section

set_option maxRecDepth 16384

noncomputable section

namespace Cert.HiddenIdeal.Codes

open Idealize.ShloMosaic Idealize.ShloMosaic.TcCoe Cert.HiddenIdeal Cert.HiddenIdeal.Gen Cert.Exponent

/-- The lane number, with one of its low five bits changed. -/
theorem lane : ∀ s : Fin 5, ∀ l : Fin 128,
    (Scalar.select (IntOp.cmpi CmpIPredicate.slt (IntOp.xori (BitVec.ofNat 32 l.val) (BitVec.ofNat 32 (2 ^ s.val))) 0#32)
      (IntOp.addi (IntOp.xori (BitVec.ofNat 32 l.val) (BitVec.ofNat 32 (2 ^ s.val))) 128#32)
      (IntOp.xori (BitVec.ofNat 32 l.val) (BitVec.ofNat 32 (2 ^ s.val)))).toNat % 128 = l.val ^^^ 2 ^ s.val := by decide +kernel

theorem swap_at (s : BitVec 32) (r : Fin 8) (l : Fin 128) :
    Lanes.swap s (ix2 r l) = Scalar.select (IntOp.cmpi CmpIPredicate.slt (IntOp.xori (BitVec.ofNat 32 l.val) s) 0#32)
      (IntOp.addi (IntOp.xori (BitVec.ofNat 32 l.val) s) 128#32) (IntOp.xori (BitVec.ofNat 32 l.val) s) := by
  pointwise [Lanes.swap]

theorem fold_at (s : BitVec 32) (a : FVec Ideal S8x128 .f32) (r : Fin 8) (l : Fin 128) :
    Lanes.fold s a (ix2 r l) = max (a (ix2 r l)) (a (ix2 r ⟨(Lanes.swap s (ix2 r l)).toNat % 128, Nat.mod_lt _ (by omega)⟩)) := by
  pointwise [Lanes.fold]

/-- A tile whose lanes hold the largest over a set of exchanges, after one more exchange. -/
theorem fold_over (s : Fin 5) (M : Finset ℕ) (f : ℕ → EReal) (a : FVec Ideal S8x128 .f32) (r : Fin 8)
    (h : ∀ l : Fin 128, a (ix2 r l) = Quantise.over M f l.val) (l : Fin 128) :
    Lanes.fold (BitVec.ofNat 32 (2 ^ s.val)) a (ix2 r l) = Quantise.over (M ∪ M.image (2 ^ s.val ^^^ ·)) f l.val := by
  rw [fold_at, h, h, ← Quantise.over_step]
  simp only [swap_at, lane s l]

/-- The exchanges leave in each lane the largest magnitude of its 32. -/
theorem amax_at (a : FVec Ideal S8x128 .f32) (r : Fin 8) (l : Fin 128) :
    Lanes.amax a (ix2 r l) = Quantise.largest fun k => a (ix2 r ⟨32 * (l.val / 32) + k.val, by omega⟩) := by
  let f : ℕ → EReal := fun n => max (a (ix2 r ⟨n % 128, Nat.mod_lt _ (by omega)⟩)) (-a (ix2 r ⟨n % 128, Nat.mod_lt _ (by omega)⟩))
  have h0 : ∀ l : Fin 128, absf a (ix2 r l) = Quantise.over {0} f l.val := by
    intro l
    have hl : (⟨l.val % 128, Nat.mod_lt _ (by omega)⟩ : Fin 128) = l := Fin.ext (Nat.mod_eq_of_lt l.isLt)
    unfold Quantise.over
    rw [Finset.sup_singleton, Nat.xor_zero]
    simp only [f, hl]
    rfl
  have h1 := fold_over 4 _ f _ r h0
  have h2 := fold_over 3 _ f _ r h1
  have h3 := fold_over 2 _ f _ r h2
  have h4 := fold_over 1 _ f _ r h3
  have h5 := fold_over 0 _ f _ r h4 l
  refine h5.trans ((congrArg (fun M => Quantise.over M f l.val) (?_ : _ = Finset.range 32)).trans ?_)
  · decide +kernel
  rw [Quantise.over_all f _ l.isLt]
  unfold Quantise.largest
  refine Finset.sup_congr rfl fun k _ => ?_
  have hk : (⟨(32 * (l.val / 32) + k.val) % 128, Nat.mod_lt _ (by omega)⟩ : Fin 128) = ⟨32 * (l.val / 32) + k.val, by omega⟩ :=
    Fin.ext (Nat.mod_eq_of_lt (by omega))
  simp only [f, hk]

theorem half_at (s : BitVec 32) (m : FVec Ideal S8x128 .f32) (e : IVec S8x128 32) (r : Fin 8) (l : Fin 128) :
    Lanes.half m s e (ix2 r l) = step (m (ix2 r l)) (e (ix2 r l)) s := by
  pointwise [Lanes.half]
  rfl

theorem kept_at (p : FVec Ideal S8x128 .f32) (r : Fin 8) (l : Fin 128) :
    Lanes.kept p (ix2 r l) = clamp (if p (ix2 r l) = 0 then Ideal.ofBits FTy.f32 1132462080#32 else p (ix2 r l)) := by
  pointwise [Lanes.kept]
  rfl

/-- The exponent field the bisection finds in each lane. -/
theorem expo_at (a : FVec Ideal S8x128 .f32) (r : Fin 8) (l : Fin 128) (h : 0 ≤ Lanes.amax a (ix2 r l)) :
    Lanes.expo a (ix2 r l) = BitVec.ofNat 32 (Quantise.fieldOf (Lanes.amax a (ix2 r l))) := by
  rw [← Quantise.bisect_fieldOf _ h]
  unfold Lanes.expo bisect
  simp only [half_at, kept_at]
  rfl

theorem word_at (a b : FVec Ideal S8x128 .f32) (r : Fin 8) (l : Fin 128) :
    Lanes.word a b (ix2 r l) = Lanes.expo a (ix2 r l) <<< 7 ||| Lanes.expo b (ix2 r l) <<< 23 := by
  pointwise [Lanes.word]
  rfl

theorem first_at (w : IVec S8x128 32) (r : Fin 8) (l : Fin 128) :
    Lanes.first w (ix2 r l) = w (ix2 r l) <<< 16 &&& 2139095040#32 := by
  pointwise [Lanes.first]
  rfl

theorem second_at (w : IVec S8x128 32) (r : Fin 8) (l : Fin 128) :
    Lanes.second w (ix2 r l) = w (ix2 r l) &&& 2139095040#32 := by
  pointwise [Lanes.second]
  rfl

/-- A tile times what a word less another denotes, kept within a range. -/
theorem times_at (k : BitVec 32) (lo hi : Ideal .f32) (a : FVec Ideal S8x128 .f32) (e : IVec S8x128 32) (r : Fin 8) (l : Fin 128) :
    minimumf (broadcast S8x128 hi) (maximumf (broadcast S8x128 lo) (mulf a (bitcastToFloat .f32 (subi (broadcast S8x128 k) e)))) (ix2 r l)
      = min hi (max lo (a (ix2 r l) * Ideal.ofBits FTy.f32 (k - e (ix2 r l)))) := rfl

theorem quant_at (a : FVec Ideal S8x128 .f32) (e : IVec S8x128 32) (r : Fin 8) (l : Fin 128) :
    Lanes.quant a e (ix2 r l) = min (Ideal.ofBits FTy.f32 1138753536#32) (max (Ideal.ofBits FTy.f32 3286237184#32)
        (a (ix2 r l) * Ideal.ofBits FTy.f32 (2197815296#32 - e (ix2 r l)))) :=
  times_at 2197815296#32 (Ideal.ofBits FTy.f32 3286237184#32) (Ideal.ofBits FTy.f32 1138753536#32) a e r l

/-- What a word less another denotes. -/
theorem less_at (k : BitVec 32) (e : IVec S8x128 32) (r : Fin 8) (l : Fin 128) :
    (bitcastToFloat .f32 (subi e (broadcast S8x128 k)) : FVec Ideal S8x128 .f32) (ix2 r l) = Ideal.ofBits FTy.f32 (e (ix2 r l) - k) := rfl

theorem scale_at (e : IVec S8x128 32) (r : Fin 8) (l : Fin 128) :
    Lanes.scale e (ix2 r l) = Ideal.ofBits FTy.f32 (e (ix2 r l) - 67108864#32) := less_at 67108864#32 e r l

/-- The activation of one element. -/
theorem gelu_at (z : Vec Ideal S8x128 .f32) (b : Vec Ideal S1x128 .f32) (r : Fin 8) (l : Fin 128) :
    Lanes.gelu z b (ix2 r l) = Quantise.gelu (z (ix2 r l) + b (ix2 0 l)) := by
  pointwise [Lanes.gelu]
  rfl

/-- The largest magnitude of the block an element of a tile lies in. -/
abbrev blockMax (a : FVec Ideal S8x128 .f32) (r : Fin 8) (l : Fin 128) : EReal :=
  Quantise.largest fun k => a (ix2 r ⟨32 * (l.val / 32) + k.val, by omega⟩)

/-- The first tile's field of the word of two tiles. -/
theorem first_word (a b : FVec Ideal S8x128 .f32) (r : Fin 8) (l : Fin 128) :
    Lanes.first (Lanes.word a b) (ix2 r l) = BitVec.ofNat 32 (Quantise.fieldOf (blockMax a r l)) <<< 23 := by
  have ha : 0 ≤ Lanes.amax a (ix2 r l) := by rw [amax_at]; exact Quantise.largest_nonneg _
  have hb : 0 ≤ Lanes.amax b (ix2 r l) := by rw [amax_at]; exact Quantise.largest_nonneg _
  obtain ⟨_, h2, _⟩ := Quantise.fieldOf_range (blockMax a r l)
  obtain ⟨_, h3, _⟩ := Quantise.fieldOf_range (blockMax b r l)
  rw [first_at, word_at, expo_at _ _ _ ha, expo_at _ _ _ hb, amax_at, amax_at]
  exact Quantise.low_half _ _ (lt_of_le_of_lt h2 (by omega)) (lt_of_le_of_lt h3 (by omega))

/-- The second tile's field of the word of two tiles. -/
theorem second_word (a b : FVec Ideal S8x128 .f32) (r : Fin 8) (l : Fin 128) :
    Lanes.second (Lanes.word a b) (ix2 r l) = BitVec.ofNat 32 (Quantise.fieldOf (blockMax b r l)) <<< 23 := by
  have ha : 0 ≤ Lanes.amax a (ix2 r l) := by rw [amax_at]; exact Quantise.largest_nonneg _
  have hb : 0 ≤ Lanes.amax b (ix2 r l) := by rw [amax_at]; exact Quantise.largest_nonneg _
  obtain ⟨_, h2, _⟩ := Quantise.fieldOf_range (blockMax a r l)
  obtain ⟨_, h3, _⟩ := Quantise.fieldOf_range (blockMax b r l)
  rw [second_at, word_at, expo_at _ _ _ ha, expo_at _ _ _ hb, amax_at, amax_at]
  exact Quantise.high_half _ _ (lt_of_le_of_lt h2 (by omega)) (lt_of_le_of_lt h3 (by omega))

/-- The code of one element of a tile. -/
theorem quant_code (a : FVec Ideal S8x128 .f32) (e : IVec S8x128 32) (r : Fin 8) (l : Fin 128)
    (h : e (ix2 r l) = BitVec.ofNat 32 (Quantise.fieldOf (blockMax a r l)) <<< 23) :
    Lanes.quant a e (ix2 r l) = Quantise.code (a (ix2 r l)) (blockMax a r l) := by
  rw [quant_at, h, Quantise.ofBits_over]
  rfl

/-- The scale of one element of a tile. -/
theorem scale_pow (a : FVec Ideal S8x128 .f32) (e : IVec S8x128 32) (r : Fin 8) (l : Fin 128)
    (h : e (ix2 r l) = BitVec.ofNat 32 (Quantise.fieldOf (blockMax a r l)) <<< 23) :
    Lanes.scale e (ix2 r l) = Quantise.pow (exponent (blockMax a r l)) := by
  rw [scale_at, h, Quantise.ofBits_under]

/-- The codes of four tiles that hold 32 rows of an array. -/
theorem codes_at (a0 a1 a2 a3 : FVec Ideal S8x128 .f32) (f : ℕ → Fin 128 → EReal)
    (h0 : ∀ (s : Fin 8) (l : Fin 128), a0 (ix2 s l) = f s.val l) (h1 : ∀ (s : Fin 8) (l : Fin 128), a1 (ix2 s l) = f (8 + s.val) l)
    (h2 : ∀ (s : Fin 8) (l : Fin 128), a2 (ix2 s l) = f (16 + s.val) l) (h3 : ∀ (s : Fin 8) (l : Fin 128), a3 (ix2 s l) = f (24 + s.val) l)
    (r : Fin 32) (l : Fin 128) :
    Lanes.codes a0 a1 a2 a3 (ix2 r l)
      = Quantise.code (f r.val l) (Quantise.largest fun k => f r.val ⟨32 * (l.val / 32) + k.val, by omega⟩) := by
  pointwise [Lanes.codes]
  split
  · rw [quant_code _ _ _ _ (first_word _ _ _ _)]
    simp only [blockMax, h0]
  · split
    · rw [quant_code _ _ _ _ (second_word _ _ _ _)]
      simp only [blockMax, h1, show 8 + (r.val - 8) = r.val by omega]
    · split
      · rw [quant_code _ _ _ _ (first_word _ _ _ _)]
        simp only [blockMax, h2, show 16 + (r.val - 8 - 8) = r.val by omega]
      · rw [quant_code _ _ _ _ (second_word _ _ _ _)]
        simp only [blockMax, h3, show 24 + (r.val - 8 - 8 - 8) = r.val by omega]

/-- What those codes stand for. -/
theorem rounded_at (a0 a1 a2 a3 : FVec Ideal S8x128 .f32) (f : ℕ → Fin 128 → EReal)
    (h0 : ∀ (s : Fin 8) (l : Fin 128), a0 (ix2 s l) = f s.val l) (h1 : ∀ (s : Fin 8) (l : Fin 128), a1 (ix2 s l) = f (8 + s.val) l)
    (h2 : ∀ (s : Fin 8) (l : Fin 128), a2 (ix2 s l) = f (16 + s.val) l) (h3 : ∀ (s : Fin 8) (l : Fin 128), a3 (ix2 s l) = f (24 + s.val) l)
    (r : Fin 32) (l : Fin 128) :
    Lanes.rounded a0 a1 a2 a3 (ix2 r l)
      = Quantise.rounded (f r.val l) (Quantise.largest fun k => f r.val ⟨32 * (l.val / 32) + k.val, by omega⟩) := by
  pointwise [Lanes.rounded]
  rw [codes_at a0 a1 a2 a3 f h0 h1 h2 h3]
  unfold Quantise.rounded
  congr 1
  split
  · rw [scale_pow _ _ _ _ (first_word _ _ _ _)]
    simp only [blockMax, h0]
  · split
    · rw [scale_pow _ _ _ _ (second_word _ _ _ _)]
      simp only [blockMax, h1, show 8 + (r.val - 8) = r.val by omega]
    · split
      · rw [scale_pow _ _ _ _ (first_word _ _ _ _)]
        simp only [blockMax, h2, show 16 + (r.val - 8 - 8) = r.val by omega]
      · rw [scale_pow _ _ _ _ (second_word _ _ _ _)]
        simp only [blockMax, h3, show 24 + (r.val - 8 - 8 - 8) = r.val by omega]

end Cert.HiddenIdeal.Codes

end
-- ==== Proof.Tiles.lean ====
/- What the first product's main loop stores of a block of activations: their codes, and what the codes stand for. -/
module

public import proofs.«01_k».proof.Proof.Trip
public import proofs.«01_k».proof.Proof.Codes
public import Idealize.ShloMosaic.Lib.Pipeline.CanonAppend
public import Idealize.ShloMosaic.Lib.Pipeline.ValueKit

@[expose] public section

set_option maxRecDepth 16384

noncomputable section

namespace Cert.HiddenIdeal.Tiles

open Idealize.ShloMosaic Idealize.ShloMosaic.TcCoe Idealize.SL.Sem Cert.HiddenIdeal Cert.HiddenIdeal.Gen

/-- The number of trips. -/
theorem trips_eq : k0_t2_loop.trips = 16 := by decide +kernel

/-- Trip `k` reads its eight rows `q` from row `32 k + 8 q`, in the first columns. -/
theorem off3 : ∀ (k : Fin k0_t2_loop.trips) (q : Fin 4), k0_off3 k (BitVec.ofNat 32 (8 * q.val)) 0 = 32 * k.val + 8 * q.val
    ∧ k0_off3 k (BitVec.ofNat 32 (8 * q.val)) 1 = 0 := by decide +kernel

/-- The same rows, in the last columns. -/
theorem off6 : ∀ (k : Fin k0_t2_loop.trips) (q : Fin 4), k0_off6 k (BitVec.ofNat 32 (8 * q.val)) 0 = 32 * k.val + 8 * q.val
    ∧ k0_off6 k (BitVec.ofNat 32 (8 * q.val)) 1 = 128 := by decide +kernel

/-- Trip `k` stores 32 rows from row `32 k`, in the first columns. -/
theorem off5 : ∀ k : Fin k0_t2_loop.trips, k0_off5 k 0 = 32 * k.val ∧ k0_off5 k 1 = 0 := by decide +kernel

/-- The same rows, in the last columns. -/
theorem off7 : ∀ k : Fin k0_t2_loop.trips, k0_off7 k 0 = 32 * k.val ∧ k0_off7 k 1 = 128 := by decide +kernel

/-- The activation of an element of a block: the product's element and its column's bias, through `gelu`. -/
def act (Z : FVec Ideal S512x256 .f32) (B : FVec Ideal S1x256 .f32) (r : Fin 512) (l : Fin 256) : EReal :=
  Quantise.gelu (Z (ix2 r l) + B (ix2 0 l))

/-- A number of the element and the largest magnitude of its 32 columns, at every element of a block. -/
def block (val : EReal → EReal → EReal) (Z : FVec Ideal S512x256 .f32) (B : FVec Ideal S1x256 .f32) : S512x256.Idx → EReal := fun y =>
  val (act Z B (y 0) (y 1)) (Quantise.largest fun k => act Z B (y 0) ⟨32 * ((y 1).val / 32) + k.val, by have : (y 1).val < 256 := (y 1).isLt; omega⟩)

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

variable (arg1 : BitVec 32) (v11 : IVec S8x128 32) (X_arg5 : BufTy.Contents (Elt Ideal) arg5.view.ty)
  (X_arg10 : BufTy.Contents (Elt Ideal) arg10.view.ty) (Z : FVec Ideal S512x256 .f32) (B : FVec Ideal S1x256 .f32)

/-- The activations a trip reads of the first columns. -/
theorem left_at (hZ : arg10.view.read (Elt Ideal) X_arg10 = Z) (hB : arg5.view.read (Elt Ideal) X_arg5 = B)
    (k : Fin k0_t2_loop.trips) (q : Fin 4) (s : Fin 8) (l : Fin 128) (n : Fin 512) (hn : n.val = 32 * k.val + 8 * q.val + s.val) :
    Trip.left arg5 arg10 X_arg5 X_arg10 k q (ix2 s l) = act Z B n ⟨l.val, by omega⟩ := by
  unfold Trip.left act
  rw [Codes.gelu_at]
  show Quantise.gelu (arg10.view.read (Elt Ideal) X_arg10 ((Rect.unit (s := S512x256) (k0_off3 k (BitVec.ofNat 32 (8 * q.val))) S8x128.size (k0_off3_inb k q)).idx (ix2 s l))
    + arg5.view.read (Elt Ideal) X_arg5 ((Rect.unit (s := S1x256) ![0, 0] S1x128.size inb_S1x256_S1x128_0_0).idx (ix2 0 l))) = _
  rw [hZ, hB]
  refine congrArg Quantise.gelu (congrArg₂ (fun p r : EReal => p + r) (congrArg Z ?_) (congrArg B ?_))
  · funext a; apply Fin.ext; rw [Rect.idx_unit_val]
    match a with
    | 0 => show k0_off3 k (BitVec.ofNat 32 (8 * q.val)) 0 + s.val = n.val; rw [(off3 k q).1, hn]
    | 1 => show k0_off3 k (BitVec.ofNat 32 (8 * q.val)) 1 + l.val = l.val; rw [(off3 k q).2]; omega
  · funext a; apply Fin.ext; rw [Rect.idx_unit_val]
    match a with
    | 0 => rfl
    | 1 => show 0 + l.val = l.val; omega

/-- The activations a trip reads of the last columns. -/
theorem right_at (hZ : arg10.view.read (Elt Ideal) X_arg10 = Z) (hB : arg5.view.read (Elt Ideal) X_arg5 = B)
    (k : Fin k0_t2_loop.trips) (q : Fin 4) (s : Fin 8) (l : Fin 128) (n : Fin 512) (hn : n.val = 32 * k.val + 8 * q.val + s.val) :
    Trip.right arg5 arg10 X_arg5 X_arg10 k q (ix2 s l) = act Z B n ⟨128 + l.val, by omega⟩ := by
  unfold Trip.right act
  rw [Codes.gelu_at]
  show Quantise.gelu (arg10.view.read (Elt Ideal) X_arg10 ((Rect.unit (s := S512x256) (k0_off6 k (BitVec.ofNat 32 (8 * q.val))) S8x128.size (k0_off6_inb k q)).idx (ix2 s l))
    + arg5.view.read (Elt Ideal) X_arg5 ((Rect.unit (s := S1x256) ![0, 128] S1x128.size inb_S1x256_S1x128_0_128).idx (ix2 0 l))) = _
  rw [hZ, hB]
  refine congrArg Quantise.gelu (congrArg₂ (fun p r : EReal => p + r) (congrArg Z ?_) (congrArg B ?_))
  · funext a; apply Fin.ext; rw [Rect.idx_unit_val]
    match a with
    | 0 => show k0_off6 k (BitVec.ofNat 32 (8 * q.val)) 0 + s.val = n.val; rw [(off6 k q).1, hn]
    | 1 => show k0_off6 k (BitVec.ofNat 32 (8 * q.val)) 1 + l.val = 128 + l.val; rw [(off6 k q).2]
  · funext a; apply Fin.ext; rw [Rect.idx_unit_val]
    match a with
    | 0 => rfl
    | 1 => rfl

/-- Where trip `k`'s rows stand in the block. -/
def row (k : Fin k0_t2_loop.trips) (n : ℕ) : Fin 512 := ⟨(32 * k.val + n) % 512, Nat.mod_lt _ (by omega)⟩

theorem row_val (k : Fin k0_t2_loop.trips) (n : ℕ) (h : n < 32) : (row k n).val = 32 * k.val + n := by
  have hk : k.val < 16 := trips_eq ▸ k.isLt
  exact Nat.mod_eq_of_lt (by omega)

/-- The element of the block a piece in the first columns places its element at. -/
theorem left_idx (k : Fin k0_t2_loop.trips) (r : Fin 32) (l : Fin 128) :
    (Rect.unit (s := S512x256) (k0_off5 k) S32x128.size (k0_off5_inb k)).emb (ix2 r l) = ix2 (row k r.val) (⟨l.val, by omega⟩ : Fin 256) := by
  show (Rect.unit (s := S512x256) (k0_off5 k) S32x128.size (k0_off5_inb k)).idx (ix2 r l) = _
  funext a; apply Fin.ext; rw [Rect.idx_unit_val]
  match a with
  | 0 => show k0_off5 k 0 + r.val = (row k r.val).val; rw [(off5 k).1, row_val k _ r.isLt]
  | 1 => show k0_off5 k 1 + l.val = l.val; rw [(off5 k).2]; omega

/-- The element of the block a piece in the last columns places its element at. -/
theorem right_idx (k : Fin k0_t2_loop.trips) (r : Fin 32) (l : Fin 128) :
    (Rect.unit (s := S512x256) (k0_off7 k) S32x128.size (k0_off7_inb k)).emb (ix2 r l) = ix2 (row k r.val) (⟨128 + l.val, by omega⟩ : Fin 256) := by
  show (Rect.unit (s := S512x256) (k0_off7 k) S32x128.size (k0_off7_inb k)).idx (ix2 r l) = _
  funext a; apply Fin.ext; rw [Rect.idx_unit_val]
  match a with
  | 0 => show k0_off7 k 0 + r.val = (row k r.val).val; rw [(off7 k).1, row_val k _ r.isLt]
  | 1 => show k0_off7 k 1 + l.val = 128 + l.val; rw [(off7 k).2]

/-- The block's number at an element of the first columns. -/
theorem block_left (val : EReal → EReal → EReal) (k : Fin k0_t2_loop.trips) (r : Fin 32) (l : Fin 128) :
    block val Z B ((Rect.unit (s := S512x256) (k0_off5 k) S32x128.size (k0_off5_inb k)).emb (ix2 r l))
      = val (act Z B (row k r.val) ⟨l.val, by omega⟩)
        (Quantise.largest fun j => act Z B (row k r.val) ⟨32 * (l.val / 32) + j.val, by omega⟩) := by
  rw [left_idx]
  rfl

/-- The block's number at an element of the last columns. -/
theorem block_right (val : EReal → EReal → EReal) (k : Fin k0_t2_loop.trips) (r : Fin 32) (l : Fin 128) :
    block val Z B ((Rect.unit (s := S512x256) (k0_off7 k) S32x128.size (k0_off7_inb k)).emb (ix2 r l))
      = val (act Z B (row k r.val) ⟨128 + l.val, by omega⟩)
        (Quantise.largest fun j => act Z B (row k r.val) ⟨128 + (32 * (l.val / 32) + j.val), by omega⟩) := by
  rw [right_idx]
  unfold block
  refine congrArg (val _) (congrArg Quantise.largest (funext fun j => congrArg (act Z B _) (Fin.ext ?_)))
  show 32 * ((128 + l.val) / 32) + j.val = 128 + (32 * (l.val / 32) + j.val)
  omega

/-- The codes a trip stores in the first columns are the block's. -/
theorem codes_left (hZ : arg10.view.read (Elt Ideal) X_arg10 = Z) (hB : arg5.view.read (Elt Ideal) X_arg5 = B) (k : Fin k0_t2_loop.trips)
    (x : (Rect.unit (s := S512x256) (k0_off5 k) S32x128.size (k0_off5_inb k)).shape.Idx) :
    Trip.ofLeft arg5 arg10 X_arg5 X_arg10 k Lanes.codes x
      = block Quantise.code Z B ((Rect.unit (s := S512x256) (k0_off5 k) S32x128.size (k0_off5_inb k)).emb x) := by
  obtain ⟨r, l, rfl⟩ : ∃ (r : Fin 32) (l : Fin 128), x = ix2 r l := ⟨x 0, x 1, by funext a; match a with | 0 => rfl | 1 => rfl⟩
  rw [block_left]
  have h (q : Fin 4) (s : Fin 8) (l : Fin 128) := left_at arg5 arg10 X_arg5 X_arg10 Z B hZ hB k q s l (row k (8 * q.val + s.val))
    ((row_val k _ (by omega)).trans (by omega))
  exact Codes.codes_at _ _ _ _ (fun n l => act Z B (row k n) ⟨l.val, by omega⟩)
    (fun s l => (h 0 s l).trans (by simp)) (fun s l => h 1 s l) (fun s l => h 2 s l) (fun s l => h 3 s l) r l

/-- The codes a trip stores in the last columns are the block's. -/
theorem codes_right (hZ : arg10.view.read (Elt Ideal) X_arg10 = Z) (hB : arg5.view.read (Elt Ideal) X_arg5 = B) (k : Fin k0_t2_loop.trips)
    (x : (Rect.unit (s := S512x256) (k0_off7 k) S32x128.size (k0_off7_inb k)).shape.Idx) :
    Trip.ofRight arg5 arg10 X_arg5 X_arg10 k Lanes.codes x
      = block Quantise.code Z B ((Rect.unit (s := S512x256) (k0_off7 k) S32x128.size (k0_off7_inb k)).emb x) := by
  obtain ⟨r, l, rfl⟩ : ∃ (r : Fin 32) (l : Fin 128), x = ix2 r l := ⟨x 0, x 1, by funext a; match a with | 0 => rfl | 1 => rfl⟩
  rw [block_right]
  have h (q : Fin 4) (s : Fin 8) (l : Fin 128) := right_at arg5 arg10 X_arg5 X_arg10 Z B hZ hB k q s l (row k (8 * q.val + s.val))
    ((row_val k _ (by omega)).trans (by omega))
  exact Codes.codes_at _ _ _ _ (fun n l => act Z B (row k n) ⟨128 + l.val, by omega⟩)
    (fun s l => (h 0 s l).trans (by simp)) (fun s l => h 1 s l) (fun s l => h 2 s l) (fun s l => h 3 s l) r l

/-- The rounded values a trip stores in the first columns are the block's. -/
theorem rounded_left (hZ : arg10.view.read (Elt Ideal) X_arg10 = Z) (hB : arg5.view.read (Elt Ideal) X_arg5 = B) (k : Fin k0_t2_loop.trips)
    (x : (Rect.unit (s := S512x256) (k0_off5 k) S32x128.size (k0_off5_inb k)).shape.Idx) :
    Trip.ofLeft arg5 arg10 X_arg5 X_arg10 k Lanes.rounded x
      = block Quantise.rounded Z B ((Rect.unit (s := S512x256) (k0_off5 k) S32x128.size (k0_off5_inb k)).emb x) := by
  obtain ⟨r, l, rfl⟩ : ∃ (r : Fin 32) (l : Fin 128), x = ix2 r l := ⟨x 0, x 1, by funext a; match a with | 0 => rfl | 1 => rfl⟩
  rw [block_left]
  have h (q : Fin 4) (s : Fin 8) (l : Fin 128) := left_at arg5 arg10 X_arg5 X_arg10 Z B hZ hB k q s l (row k (8 * q.val + s.val))
    ((row_val k _ (by omega)).trans (by omega))
  exact Codes.rounded_at _ _ _ _ (fun n l => act Z B (row k n) ⟨l.val, by omega⟩)
    (fun s l => (h 0 s l).trans (by simp)) (fun s l => h 1 s l) (fun s l => h 2 s l) (fun s l => h 3 s l) r l

/-- The rounded values a trip stores in the last columns are the block's. -/
theorem rounded_right (hZ : arg10.view.read (Elt Ideal) X_arg10 = Z) (hB : arg5.view.read (Elt Ideal) X_arg5 = B) (k : Fin k0_t2_loop.trips)
    (x : (Rect.unit (s := S512x256) (k0_off7 k) S32x128.size (k0_off7_inb k)).shape.Idx) :
    Trip.ofRight arg5 arg10 X_arg5 X_arg10 k Lanes.rounded x
      = block Quantise.rounded Z B ((Rect.unit (s := S512x256) (k0_off7 k) S32x128.size (k0_off7_inb k)).emb x) := by
  obtain ⟨r, l, rfl⟩ : ∃ (r : Fin 32) (l : Fin 128), x = ix2 r l := ⟨x 0, x 1, by funext a; match a with | 0 => rfl | 1 => rfl⟩
  rw [block_right]
  have h (q : Fin 4) (s : Fin 8) (l : Fin 128) := right_at arg5 arg10 X_arg5 X_arg10 Z B hZ hB k q s l (row k (8 * q.val + s.val))
    ((row_val k _ (by omega)).trans (by omega))
  exact Codes.rounded_at _ _ _ _ (fun n l => act Z B (row k n) ⟨128 + l.val, by omega⟩)
    (fun s l => (h 0 s l).trans (by simp)) (fun s l => h 1 s l) (fun s l => h 2 s l) (fun s l => h 3 s l) r l

/-- Every row of a trip is stored by one of its two pieces. -/
theorem trip_covers (k : Fin k0_t2_loop.trips) (y : S512x256.Idx) (h1 : 32 * k.val ≤ (y 0).val) (h2 : (y 0).val < 32 * (k.val + 1)) :
    y ∈ (Rect.unit (s := S512x256) (k0_off7 k) S32x128.size (k0_off7_inb k)).set
      ∨ y ∈ (Rect.unit (s := S512x256) (k0_off5 k) S32x128.size (k0_off5_inb k)).set := by
  have hl : (y 1).val < 256 := (y 1).isLt
  rw [Rect.mem_set_unit, Rect.mem_set_unit]
  by_cases h : (y 1).val < 128
  · right
    intro a
    match a with
    | 0 => show k0_off5 k 0 ≤ (y 0).val ∧ (y 0).val < k0_off5 k 0 + 32; rw [(off5 k).1]; omega
    | 1 => show k0_off5 k 1 ≤ (y 1).val ∧ (y 1).val < k0_off5 k 1 + 128; rw [(off5 k).2]; omega
  · left
    intro a
    match a with
    | 0 => show k0_off7 k 0 ≤ (y 0).val ∧ (y 0).val < k0_off7 k 0 + 32; rw [(off7 k).1]; omega
    | 1 => show k0_off7 k 1 ≤ (y 1).val ∧ (y 1).val < k0_off7 k 1 + 128; rw [(off7 k).2]; omega

variable (G6 : BufTy.Contents (Elt Ideal) arg6.view.ty) (G8 : BufTy.Contents (Elt Ideal) arg8.view.ty) (G11 : BufTy.Contents (Elt Ideal) arg11.view.ty)

/-- One more trip's codes, in front of those before. -/
theorem codes_succ (n : ℕ) (hn : n < k0_t2_loop.trips) : (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 (n + 1)).1
    = [⟨Rect.unit (s := S512x256) (k0_off7 ⟨n, hn⟩) S32x128.size (k0_off7_inb ⟨n, hn⟩), Trip.ofRight arg5 arg10 X_arg5 X_arg10 ⟨n, hn⟩ Lanes.codes⟩, ⟨Rect.unit (s := S512x256) (k0_off5 ⟨n, hn⟩) S32x128.size (k0_off5_inb ⟨n, hn⟩), Trip.ofLeft arg5 arg10 X_arg5 X_arg10 ⟨n, hn⟩ Lanes.codes⟩] ++ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).1 :=
  (congrArg (fun q => q.1) (pb_k0_t2_succ 𝒱 c bd i arg2 harg2 arg3 harg3 arg4 harg4 arg5 harg5 arg6 harg6 arg7 harg7 arg8 harg8 arg9 harg9 arg10 harg10 arg11 harg11 arg1 v11 X_arg5 X_arg10 G6 G8 G11 ⟨n, hn⟩)).trans (congrArg (· ++ _) (Trip.trip_codes 𝒱 c bd i arg2 harg2 arg3 harg3 arg4 harg4 arg5 harg5 arg6 harg6 arg7 harg7 arg8 harg8 arg9 harg9 arg10 harg10 arg11 harg11 arg1 v11 X_arg5 X_arg10 ⟨n, hn⟩ _ _ _))

/-- All the codes the loop has stored are the block's. -/
theorem codes_pieces (hZ : arg10.view.read (Elt Ideal) X_arg10 = Z) (hB : arg5.view.read (Elt Ideal) X_arg5 = B) :
    ∀ n : ℕ, n ≤ k0_t2_loop.trips → ∀ p ∈ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).1, ∀ x, p.2 x = block Quantise.code Z B (p.1.emb x)
  | 0, _, p, hp, _ => absurd hp List.not_mem_nil
  | n + 1, hn, p, hp, x => by
    rw [codes_succ 𝒱 c bd i arg2 harg2 arg3 harg3 arg4 harg4 arg5 harg5 arg6 harg6 arg7 harg7 arg8 harg8 arg9 harg9 arg10 harg10 arg11 harg11 arg1 v11 X_arg5 X_arg10 G6 G8 G11 n hn, List.mem_append, List.mem_cons, List.mem_singleton] at hp
    rcases hp with (rfl | rfl) | hp
    · exact codes_right arg5 arg10 X_arg5 X_arg10 Z B hZ hB ⟨n, hn⟩ x
    · exact codes_left arg5 arg10 X_arg5 X_arg10 Z B hZ hB ⟨n, hn⟩ x
    · exact codes_pieces hZ hB n (by omega) p hp x

/-- Every row below `32 n` has its codes stored by trip `n`. -/
theorem codes_covered : ∀ n : ℕ, n ≤ k0_t2_loop.trips → ∀ y : S512x256.Idx, (y 0).val < 32 * n →
    ∃ p ∈ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).1, y ∈ p.1.set
  | 0, _, y, hy => absurd hy (by omega)
  | n + 1, hn, y, hy => by
    rw [codes_succ 𝒱 c bd i arg2 harg2 arg3 harg3 arg4 harg4 arg5 harg5 arg6 harg6 arg7 harg7 arg8 harg8 arg9 harg9 arg10 harg10 arg11 harg11 arg1 v11 X_arg5 X_arg10 G6 G8 G11 n hn]
    by_cases h : (y 0).val < 32 * n
    · obtain ⟨p, hp, hm⟩ := codes_covered n (by omega) y h
      exact ⟨p, List.mem_append_right _ hp, hm⟩
    · rcases trip_covers ⟨n, hn⟩ y (by dsimp only; omega) hy with hm | hm
      · exact ⟨_, List.mem_append_left _ (List.mem_cons_self ..), hm⟩
      · exact ⟨_, List.mem_append_left _ (List.mem_cons_of_mem _ (List.mem_singleton.mpr rfl)), hm⟩

/-- What the block of codes holds after the loop, whatever was stored before it. -/
theorem codes_canon (hZ : arg10.view.read (Elt Ideal) X_arg10 = Z) (hB : arg5.view.read (Elt Ideal) X_arg5 = B)
    (L : List (View.Piece (Elt Ideal) S512x256 .fp8e4m3)) (n : ℕ) (hn : n = k0_t2_loop.trips) (y : S512x256.Idx) :
    View.canon ((pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).1 ++ L) y = block Quantise.code Z B y := by
  refine View.canon_append_of_pieces (block Quantise.code Z B) L _ (codes_pieces 𝒱 c bd i arg2 harg2 arg3 harg3 arg4 harg4 arg5 harg5 arg6 harg6 arg7 harg7 arg8 harg8 arg9 harg9 arg10 harg10 arg11 harg11 arg1 v11 X_arg5 X_arg10 Z B G6 G8 G11 hZ hB n hn.le) y
    (codes_covered 𝒱 c bd i arg2 harg2 arg3 harg3 arg4 harg4 arg5 harg5 arg6 harg6 arg7 harg7 arg8 harg8 arg9 harg9 arg10 harg10 arg11 harg11 arg1 v11 X_arg5 X_arg10 G6 G8 G11 n hn.le y ?_)
  have h0 : (y 0).val < 512 := (y 0).isLt
  rw [hn, trips_eq]; omega

/-- One more trip's rounded values, in front of those before. -/
theorem rounded_succ (n : ℕ) (hn : n < k0_t2_loop.trips) : (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 (n + 1)).2.1
    = [⟨Rect.unit (s := S512x256) (k0_off7 ⟨n, hn⟩) S32x128.size (k0_off7_inb ⟨n, hn⟩), Trip.ofRight arg5 arg10 X_arg5 X_arg10 ⟨n, hn⟩ Lanes.rounded⟩, ⟨Rect.unit (s := S512x256) (k0_off5 ⟨n, hn⟩) S32x128.size (k0_off5_inb ⟨n, hn⟩), Trip.ofLeft arg5 arg10 X_arg5 X_arg10 ⟨n, hn⟩ Lanes.rounded⟩] ++ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).2.1 :=
  (congrArg (fun q => q.2.1) (pb_k0_t2_succ 𝒱 c bd i arg2 harg2 arg3 harg3 arg4 harg4 arg5 harg5 arg6 harg6 arg7 harg7 arg8 harg8 arg9 harg9 arg10 harg10 arg11 harg11 arg1 v11 X_arg5 X_arg10 G6 G8 G11 ⟨n, hn⟩)).trans (congrArg (· ++ _) (Trip.trip_rounded 𝒱 c bd i arg2 harg2 arg3 harg3 arg4 harg4 arg5 harg5 arg6 harg6 arg7 harg7 arg8 harg8 arg9 harg9 arg10 harg10 arg11 harg11 arg1 v11 X_arg5 X_arg10 ⟨n, hn⟩ _ _ _))

/-- All the rounded values the loop has stored are the block's. -/
theorem rounded_pieces (hZ : arg10.view.read (Elt Ideal) X_arg10 = Z) (hB : arg5.view.read (Elt Ideal) X_arg5 = B) :
    ∀ n : ℕ, n ≤ k0_t2_loop.trips → ∀ p ∈ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).2.1, ∀ x, p.2 x = block Quantise.rounded Z B (p.1.emb x)
  | 0, _, p, hp, _ => absurd hp List.not_mem_nil
  | n + 1, hn, p, hp, x => by
    rw [rounded_succ 𝒱 c bd i arg2 harg2 arg3 harg3 arg4 harg4 arg5 harg5 arg6 harg6 arg7 harg7 arg8 harg8 arg9 harg9 arg10 harg10 arg11 harg11 arg1 v11 X_arg5 X_arg10 G6 G8 G11 n hn, List.mem_append, List.mem_cons, List.mem_singleton] at hp
    rcases hp with (rfl | rfl) | hp
    · exact rounded_right arg5 arg10 X_arg5 X_arg10 Z B hZ hB ⟨n, hn⟩ x
    · exact rounded_left arg5 arg10 X_arg5 X_arg10 Z B hZ hB ⟨n, hn⟩ x
    · exact rounded_pieces hZ hB n (by omega) p hp x

/-- Every row below `32 n` has its rounded values stored by trip `n`. -/
theorem rounded_covered : ∀ n : ℕ, n ≤ k0_t2_loop.trips → ∀ y : S512x256.Idx, (y 0).val < 32 * n →
    ∃ p ∈ (pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).2.1, y ∈ p.1.set
  | 0, _, y, hy => absurd hy (by omega)
  | n + 1, hn, y, hy => by
    rw [rounded_succ 𝒱 c bd i arg2 harg2 arg3 harg3 arg4 harg4 arg5 harg5 arg6 harg6 arg7 harg7 arg8 harg8 arg9 harg9 arg10 harg10 arg11 harg11 arg1 v11 X_arg5 X_arg10 G6 G8 G11 n hn]
    by_cases h : (y 0).val < 32 * n
    · obtain ⟨p, hp, hm⟩ := rounded_covered n (by omega) y h
      exact ⟨p, List.mem_append_right _ hp, hm⟩
    · rcases trip_covers ⟨n, hn⟩ y (by dsimp only; omega) hy with hm | hm
      · exact ⟨_, List.mem_append_left _ (List.mem_cons_self ..), hm⟩
      · exact ⟨_, List.mem_append_left _ (List.mem_cons_of_mem _ (List.mem_singleton.mpr rfl)), hm⟩

/-- What the block of rounded values holds after the loop, whatever was stored before it. -/
theorem rounded_canon (hZ : arg10.view.read (Elt Ideal) X_arg10 = Z) (hB : arg5.view.read (Elt Ideal) X_arg5 = B)
    (L : List (View.Piece (Elt Ideal) S512x256 .bf16)) (n : ℕ) (hn : n = k0_t2_loop.trips) (y : S512x256.Idx) :
    View.canon ((pb_k0_t2 (F := Ideal) 𝒱 c bd i arg2 harg2 arg3 harg3 arg4 harg4 arg5 harg5 arg6 harg6 arg7 harg7 arg8 harg8 arg9 harg9 arg10 harg10 arg11 harg11 arg1 v11 X_arg5 X_arg10 G6 G8 G11 n).2.1 ++ L) y = block Quantise.rounded Z B y := by
  refine View.canon_append_of_pieces (block Quantise.rounded Z B) L _ (rounded_pieces 𝒱 c bd i arg2 harg2 arg3 harg3 arg4 harg4 arg5 harg5 arg6 harg6 arg7 harg7 arg8 harg8 arg9 harg9 arg10 harg10 arg11 harg11 arg1 v11 X_arg5 X_arg10 Z B G6 G8 G11 hZ hB n hn.le) y
    (rounded_covered 𝒱 c bd i arg2 harg2 arg3 harg3 arg4 harg4 arg5 harg5 arg6 harg6 arg7 harg7 arg8 harg8 arg9 harg9 arg10 harg10 arg11 harg11 arg1 v11 X_arg5 X_arg10 G6 G8 G11 n hn.le y ?_)
  have h0 : (y 0).val < 512 := (y 0).isLt
  rw [hn, trips_eq]; omega

end Cert.HiddenIdeal.Tiles

end
-- ==== Proof.HiddenArray.lean ====
/- What the first product's result arrays hold. -/
module

public import proofs.«01_k».proof.Proof.HiddenRows
public import proofs.«01_k».proof.Proof.Tiles

@[expose] public section

set_option maxRecDepth 16384

noncomputable section

namespace Cert.HiddenIdeal.Array

open Idealize.ShloMosaic Idealize.ShloMosaic.TcCoe Idealize.SL.Sem Cert.HiddenIdeal Cert.HiddenIdeal.Gen
open Idealize.ShloMosaic.Pipeline (Dat)

variable (m : (ℓ : Loc nD τ sig) → Buf (Elt Ideal) ℓ)

theorem idx : ∀ t : Fin cfg0.N,
    win0_0.index t = ![t.val / 32, 0] ∧ win0_1.index t = ![0, t.val % 32] ∧ win0_2.index t = ![0, t.val % 32]
      ∧ win0_3.index t = ![0, t.val % 32] ∧ win0_4.index t = ![t.val / 32, t.val % 32] ∧ win0_6.index t = ![t.val / 32, t.val % 32] :=
  (by decide +kernel : ∀ t : Fin grid0.N, _)

/-- The activations of the arguments. -/
abbrev act (a : FVec Ideal S6656x12800 .bf16) (w : FVec Ideal S12800x8192 .fp8e4m3) (e : IVec S400x8192 8) (b : FVec Ideal S8192 .f32)
    (i : Fin 6656) (l : Fin 8192) : EReal :=
  Quantise.act (fun i k => a (ix2 i k)) (fun k l => w (ix2 k l)) (fun g l => e (ix2 g l)) (fun l => b (ix1 l)) i l

/-- The activations of the arguments in memory. -/
abbrev acts (c : Dev nD) : Fin 6656 → Fin 8192 → EReal :=
  act (m ((c : Thread nD τ).loc main_arg0)) (m ((c : Thread nD τ).loc main_arg1)) (m ((c : Thread nD τ).loc main_arg2)) (m ((c : Thread nD τ).loc main_arg3))

/-- What an element of a result is to be: a number of the activation and the largest magnitude of its 32 columns. -/
def out (val : EReal → EReal → EReal) (c : Dev nD) (i : Fin 6656) (l : Fin 8192) : EReal :=
  val (acts m c i l) (Quantise.largest fun k => acts m c i ⟨l.val / 32 * 32 + k.val, by omega⟩)

/-- The exponents as the call receives them: each byte widened to a word. -/
theorem entry_exp (c : Dev nD) (i : Fin 400) (l : Fin 8192) :
    V m c main_v0 (ix2 i l) = BitVec.setWidth 32 (m ((c : Thread nD τ).loc main_arg2) (ix2 i l)) := by
  entry_read
  rfl

/-- The bias as the call receives it: as one row. -/
theorem entry_bias (c : Dev nD) (l : Fin 8192) :
    V m c main_v1 (ix2 0 l) = m ((c : Thread nD τ).loc main_arg3) (ix1 l) := by
  entry_read
  pointwise

/-- The row of the array a block's row stands at. -/
def row (t : Fin cfg0.N) (r : Fin 512) : Fin 6656 := ⟨t.val / 32 * 512 + r.val, by have : t.val < 416 := t.isLt; omega⟩

/-- The column of the array a block's column stands at. -/
def col (t : Fin cfg0.N) (l : Fin 256) : Fin 8192 := ⟨t.val % 32 * 256 + l.val, by omega⟩

/-- The exponent bytes of a point's columns. -/
def bytes (c : Dev nD) (t : Fin cfg0.N) (g : Fin 400) (l : Fin 256) : BitVec 8 := m ((c : Thread nD τ).loc main_arg2) (ix2 g (col t l))

/-- The exponent block of a point. -/
theorem exp_block (c : Dev nD) (t : Fin cfg0.N) (g : Fin 400) (l : Fin 256) :
    iblk m c 2 t (ix2 g l) = BitVec.setWidth 32 (bytes m c t g l) := by
  unfold bytes
  rw [← entry_exp]
  unfold col
  blk_ext [iblk, idx t]

/-- The product block of a point. -/
def prod (c : Dev nD) (t : Fin cfg0.N) : FVec Ideal S512x256 .f32 :=
  k0_pay142 (F := Ideal) (iblk m c 0 t) (Rows.weights (iblk m c 1 t) (bytes m c t))

/-- The activations of a point's block are the array's. -/
theorem act_block (c : Dev nD) (t : Fin cfg0.N) (r : Fin 512) (l : Fin 256) :
    Tiles.act (prod m c t) (iblk m c 3 t) r l = acts m c (row t r) (col t l) := by
  have ht : t.val < 416 := t.isLt
  unfold Tiles.act prod acts act Quantise.act
  rw [Block.pay142_at]
  unfold Rows.weights
  refine congrArg Quantise.gelu (congrArg₂ (fun p q : EReal => p + q) (Finset.sum_congr rfl fun k _ =>
    congrArg₂ (fun p q : EReal => p * q) ?_ (congrArg₂ (fun p q : EReal => p * q) ?_ rfl)) ?_)
  · unfold row
    blk_ext [iblk, V, idx t]
  · unfold col
    blk_ext [iblk, V, idx t]
  · refine Eq.trans ?_ (entry_bias m c _)
    unfold col
    blk_ext [iblk, idx t]

/-- A point's block of results is the array's. -/
theorem block_eq (val : EReal → EReal → EReal) (c : Dev nD) (t : Fin cfg0.N) (r : Fin 512) (l : Fin 256) :
    Tiles.block val (prod m c t) (iblk m c 3 t) (ix2 r l) = out m val c (row t r) (col t l) := by
  unfold Tiles.block out
  refine congrArg₂ val (act_block m c t r l) (congrArg Quantise.largest (funext fun k => (act_block m c t r _).trans (congrArg (acts m c _) (Fin.ext ?_))))
  show t.val % 32 * 256 + (32 * (l.val / 32) + k.val) = (t.val % 32 * 256 + l.val) / 32 * 32 + k.val
  omega

/-- The product's scratch memory, read back. -/
theorem product (c : Dev nD) (hr : ∀ (g : Fin 400) (l : Fin 8192), 1 ≤ ((m ((c : Thread nD τ).loc main_arg2) (ix2 g l) : BitVec 8)).toNat
      ∧ ((m ((c : Thread nD τ).loc main_arg2) (ix2 g l) : BitVec 8)).toNat ≤ 254) (t : Fin cfg0.N) (L : List (View.Piece (Elt Ideal) S12800x256 .bf16)) :
    (View.whole cc0_scratch1).read (Elt Ideal) ((View.whole cc0_scratch1).writes (Elt Ideal) (View.whole cc0_scratch1).junk
      [⟨Rect.unit ![0, 0] ![512, 256] inb_S512x256_S512x256_0_0,
        k0_pay142 (F := Ideal) (iblk m c 0 t) ((View.whole cc0_scratch0).readCov
          (pb_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) ((hs0_1 t).unread (iblk m c 1 t))
            ((hs0_2 t).unread (iblk m c 2 t)) (Scf.trips (0#32) (Scalar.addi 0#32 400#32) 1#32) ++ L)
          (Rect.unit (s := S12800x256) ![0, 0] ![12800, 256] inb_S12800x256_S12800x256_0_0).toLoadRect)⟩])
      = prod m c t := by
  rw [View.read_writes_junk_eq_canon,
    Rows.scratch Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) (iblk m c 1 t) (iblk m c 2 t) (bytes m c t) (exp_block m c t)
      (fun g l => (hr g _).1) (fun g l => (hr g _).2) (View.whole cc0_scratch0) L (Scf.trips (0#32) (Scalar.addi 0#32 400#32) 1#32) rfl]
  exact View.canon_unit_zero (by decide) _ _

variable (c : Dev nD) (t : Fin cfg0.N) (arg1 : BitVec 32) (v11 : IVec S8x128 32) (X10 : BufTy.Contents (Elt Ideal) scM0_1.view.ty)
  (hX : scM0_1.view.read (Elt Ideal) X10 = prod m c t)
  (G6 : BufTy.Contents (Elt Ideal) (ms0_4 t).view.ty) (G8 : BufTy.Contents (Elt Ideal) (ms0_6 t).view.ty) (G11 : BufTy.Contents (Elt Ideal) scM0_2.view.ty)

include hX in
/-- The codes a point leaves are the array's. -/
theorem codes_point (L : List (View.Piece (Elt Ideal) S512x256 .fp8e4m3)) (y : S512x256.Idx) :
    View.canon ((pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) arg1 v11 ((hs0_3 t).unread (iblk m c 3 t)) X10 G6 G8 G11
      (Scf.trips (0#32) (Scalar.addi 0#32 16#32) 1#32)).1 ++ L) y = out m Quantise.code c (row t (y 0)) (col t (y 1)) := by
  rw [Tiles.codes_canon Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) arg1 v11 ((hs0_3 t).unread (iblk m c 3 t)) X10 (prod m c t) (iblk m c 3 t) G6 G8 G11
    hX ((hs0_3 t).read_unread _) L _ rfl y]
  idx_vars y
  exact block_eq m Quantise.code c t y0 y1

include hX in
/-- The rounded values a point leaves are the array's. -/
theorem rounded_point (L : List (View.Piece (Elt Ideal) S512x256 .bf16)) (y : S512x256.Idx) :
    View.canon ((pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) arg1 v11 ((hs0_3 t).unread (iblk m c 3 t)) X10 G6 G8 G11
      (Scf.trips (0#32) (Scalar.addi 0#32 16#32) 1#32)).2.1 ++ L) y = out m Quantise.rounded c (row t (y 0)) (col t (y 1)) := by
  rw [Tiles.rounded_canon Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) scM0_2 (Memref.isWhole_whole _) arg1 v11 ((hs0_3 t).unread (iblk m c 3 t)) X10 (prod m c t) (iblk m c 3 t) G6 G8 G11
    hX ((hs0_3 t).read_unread _) L _ rfl y]
  idx_vars y
  exact block_eq m Quantise.rounded c t y0 y1

/-- The array of codes. -/
theorem codes_final (c : Dev nD) (hr : ∀ (g : Fin 400) (l : Fin 8192), 1 ≤ ((m ((c : Thread nD τ).loc main_arg2) (ix2 g l) : BitVec 8)).toNat
      ∧ ((m ((c : Thread nD τ).loc main_arg2) (ix2 g l) : BitVec 8)).toNat ≤ 254) :
    (dats m 0 c).arrAt 4 cfg0.N = fun y => out m Quantise.code c (y 0) (y 1) := by
  refine (dats m 0 c).arrAt_eq_of_covers 4 (fun y => out m Quantise.code c (y 0) (y 1)) (by decide +kernel) fun t hf y => ?_
  blk_simp
  have ht : t.val < 416 := t.isLt
  have hy : ∀ a b, row t (y 0) = a → col t (y 1) = b → out m Quantise.code c (row t (y 0)) (col t (y 1)) = out m Quantise.code c a b := by
    rintro _ _ rfl rfl; rfl
  rw [after0_4]
  refine Eq.trans ?_ (hy _ _ (Fin.ext ?_) (Fin.ext ?_))
  · by_cases h0 : t.val % 32 = 0
    · rw [outsAt0_A m c t h0 (by omega)]
      frame_out
      exact codes_point m c t _ _ _ (product m c hr t _) _ _ _ _ y
    · by_cases h1 : t.val % 32 = 31
      · rw [outsAt0_C m c t h0 h1]
        frame_out
        exact codes_point m c t _ _ _ (product m c hr t _) _ _ _ _ y
      · rw [outsAt0_B m c t h0 h1]
        frame_out
        exact codes_point m c t _ _ _ (product m c hr t _) _ _ _ _ y
  · unfold row
    blk_simp [idx t]
  · unfold col
    blk_simp [idx t]

/-- The array of rounded values. -/
theorem rounded_final (c : Dev nD) (hr : ∀ (g : Fin 400) (l : Fin 8192), 1 ≤ ((m ((c : Thread nD τ).loc main_arg2) (ix2 g l) : BitVec 8)).toNat
      ∧ ((m ((c : Thread nD τ).loc main_arg2) (ix2 g l) : BitVec 8)).toNat ≤ 254) :
    (dats m 0 c).arrAt 6 cfg0.N = fun y => out m Quantise.rounded c (y 0) (y 1) := by
  refine (dats m 0 c).arrAt_eq_of_covers 6 (fun y => out m Quantise.rounded c (y 0) (y 1)) (by decide +kernel) fun t hf y => ?_
  blk_simp
  have ht : t.val < 416 := t.isLt
  have hy : ∀ a b, row t (y 0) = a → col t (y 1) = b → out m Quantise.rounded c (row t (y 0)) (col t (y 1)) = out m Quantise.rounded c a b := by
    rintro _ _ rfl rfl; rfl
  rw [after0_6]
  refine Eq.trans ?_ (hy _ _ (Fin.ext ?_) (Fin.ext ?_))
  · by_cases h0 : t.val % 32 = 0
    · rw [outsAt0_A m c t h0 (by omega)]
      frame_out
      exact rounded_point m c t _ _ _ (product m c hr t _) _ _ _ _ y
    · by_cases h1 : t.val % 32 = 31
      · rw [outsAt0_C m c t h0 h1]
        frame_out
        exact rounded_point m c t _ _ _ (product m c hr t _) _ _ _ _ y
      · rw [outsAt0_B m c t h0 h1]
        frame_out
        exact rounded_point m c t _ _ _ (product m c hr t _) _ _ _ _ y
  · unfold row
    blk_simp [idx t]
  · unfold col
    blk_simp [idx t]

end Cert.HiddenIdeal.Array

end
-- ==== Proof.Words.lean ====
/- The words one trip of the kernel's main loop keeps its exponents in, and what they replace. -/
module

public import proofs.«01_k».proof.Proof.Tiles
public import proofs.«01_k».proof.Proof.Gen.HiddenIdeal.Value
public import Idealize.ShloMosaic.Lib.WritesUnit

@[expose] public section

set_option maxRecDepth 65536

noncomputable section

namespace Cert.HiddenIdeal.Words

open Idealize.ShloMosaic Idealize.ShloMosaic.TcCoe Idealize.SL.Sem Cert.HiddenIdeal Cert.HiddenIdeal.Gen Cert.HiddenIdeal.Lanes

/-- The remainder by 16, as the kernel spells it. -/
def rem16 (x : BitVec 32) : BitVec 32 :=
  let d : BitVec 32 := Scalar.select (Scalar.cmpi .eq 16#32 0#32) 1#32 16#32
  let r : BitVec 32 := Scalar.remsi x d
  Scalar.select (Scalar.andi (Scalar.xori (Scalar.cmpi .slt r 0#32) (Scalar.cmpi .slt d 0#32)) (Scalar.cmpi .ne r 0#32)) (Scalar.addi r d) r

/-- The lane, of each 32, that a column block's half `h` keeps its words in. -/
def slot (x h : BitVec 32) : BitVec 32 := Scalar.addi (Scalar.muli (rem16 x) 2#32) h

theorem slot_eq : ∀ (n : Fin 32) (h : Fin 2),
    slot (BitVec.ofNat 32 n.val) (BitVec.ofNat 32 h.val) = BitVec.ofNat 32 (n.val % 16 * 2 + h.val) := by decide +kernel

/-- The new words in their lanes, the old ones elsewhere. -/
def keep (x : BitVec 32) (v : IVec S8x128 32) (h : BitVec 32) (w old : IVec S8x128 32) : IVec S8x128 32 :=
  select (cmpi .eq (andi v (broadcast S8x128 31#32)) (broadcast S8x128 (slot x h))) w old

theorem lane_low : ∀ (l : Fin 128) (n : Fin 32),
    (IntOp.cmpi CmpIPredicate.eq (IntOp.andi (BitVec.ofNat 32 l.val) 31#32) (BitVec.ofNat 32 n.val) = 1#1) ↔ l.val % 32 = n.val := by decide +kernel

theorem keep_at (n : Fin 32) (v : IVec S8x128 32) (hv : ∀ (s : Fin 8) (l : Fin 128), v (ix2 s l) = BitVec.ofNat 32 l.val) (h : Fin 2)
    (w old : IVec S8x128 32) (s : Fin 8) (l : Fin 128) :
    keep (BitVec.ofNat 32 n.val) v (BitVec.ofNat 32 h.val) w old (ix2 s l)
      = if l.val % 32 = n.val % 16 * 2 + h.val then w (ix2 s l) else old (ix2 s l) := by
  unfold keep
  rw [slot_eq]
  show (if IntOp.cmpi CmpIPredicate.eq (IntOp.andi (v (ix2 s l)) 31#32) (BitVec.ofNat 32 (n.val % 16 * 2 + h.val)) = 1#1 then _ else _) = _
  rw [hv]
  exact if_congr (lane_low l ⟨n.val % 16 * 2 + h.val, by omega⟩) rfl rfl

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

variable (arg1 : BitVec 32) (v11 : IVec S8x128 32) (X_arg5 : BufTy.Contents (Elt Ideal) arg5.view.ty)
  (X_arg10 : BufTy.Contents (Elt Ideal) arg10.view.ty) (k : Fin k0_t2_loop.trips)
  (f6 : BufTy.Contents (Elt Ideal) arg6.view.ty) (f8 : BufTy.Contents (Elt Ideal) arg8.view.ty) (f11 : BufTy.Contents (Elt Ideal) arg11.view.ty)

/-- The rectangle of a trip's words: eight rows `q`, the 128 lanes of the point's half. -/
abbrev rect (q : Fin 2) : Rect S256x256 := Rect.unit (s := S256x256) (k0_off4 i k (BitVec.ofNat 32 (8 * q.val))) S8x128.size (k0_off4_inb i k q)

/-- The words of two tiles of the first columns. -/
def leftWord (q : Fin 2) : IVec S8x128 32 :=
  word (Trip.left arg5 arg10 X_arg5 X_arg10 k ⟨2 * q.val, by omega⟩) (Trip.left arg5 arg10 X_arg5 X_arg10 k ⟨2 * q.val + 1, by omega⟩)

/-- The words of two tiles of the last columns. -/
def rightWord (q : Fin 2) : IVec S8x128 32 :=
  word (Trip.right arg5 arg10 X_arg5 X_arg10 k ⟨2 * q.val, by omega⟩) (Trip.right arg5 arg10 X_arg5 X_arg10 k ⟨2 * q.val + 1, by omega⟩)

/-- What a trip stores of the first columns' words. -/
def leftKept (q : Fin 2) : IVec S8x128 32 :=
  shapeCast S8x128 (keep arg1 v11 0#32 (leftWord arg5 arg10 X_arg5 X_arg10 k q) (arg11.view.readAt (Elt Ideal) (rect i k q).toLoadRect f11)) shapeCasts_S8x128_S8x128

/-- The first columns' two pieces. -/
def leftPieces : List (View.Piece (Elt Ideal) S256x256 .i32) :=
  [⟨rect i k 1, leftKept i arg5 arg10 arg11 arg1 v11 X_arg5 X_arg10 k f11 1⟩, ⟨rect i k 0, leftKept i arg5 arg10 arg11 arg1 v11 X_arg5 X_arg10 k f11 0⟩]

/-- What a trip stores of the last columns' words, over the pieces stored before. -/
def rightKept (L : List (View.Piece (Elt Ideal) S256x256 .i32)) (q : Fin 2) : IVec S8x128 32 :=
  shapeCast S8x128 (keep arg1 v11 1#32 (rightWord arg5 arg10 X_arg5 X_arg10 k q) (arg11.view.readCov L (rect i k q).toLoadRect)) shapeCasts_S8x128_S8x128

/-- The first columns' pieces and the last columns' first. -/
def threePieces : List (View.Piece (Elt Ideal) S256x256 .i32) :=
  ⟨rect i k 0, rightKept i arg5 arg10 arg11 arg1 v11 X_arg5 X_arg10 k (leftPieces i arg5 arg10 arg11 arg1 v11 X_arg5 X_arg10 k f11) 0⟩
    :: leftPieces i arg5 arg10 arg11 arg1 v11 X_arg5 X_arg10 k f11

/-- The words a trip stores. -/
theorem trip_words :
    (tripL_k0_t2 (F := Ideal) 𝒱 c bd i arg2 harg2 arg3 harg3 arg4 harg4 arg5 harg5 arg6 harg6 arg7 harg7 arg8 harg8 arg9 harg9 arg10 harg10 arg11 harg11 arg1 v11 X_arg5 X_arg10 k f6 f8 f11).2.2
    = ⟨rect i k 1, rightKept i arg5 arg10 arg11 arg1 v11 X_arg5 X_arg10 k (threePieces i arg5 arg10 arg11 arg1 v11 X_arg5 X_arg10 k f11) 1⟩
      :: threePieces i arg5 arg10 arg11 arg1 v11 X_arg5 X_arg10 k f11 := by
  unfold tripL_k0_t2 trip_k0_t2
  rfl

end Cert.HiddenIdeal.Words

end
-- ==== Proof.Kept.lean ====
/- What the main loop leaves of the words the exponents are kept in: those of one point's columns, in their lanes. -/
module

public import proofs.«01_k».proof.Proof.Words

@[expose] public section

set_option maxRecDepth 16384

noncomputable section

namespace Cert.HiddenIdeal.Kept

open Idealize.ShloMosaic Idealize.ShloMosaic.TcCoe Idealize.SL.Sem Cert.HiddenIdeal Cert.HiddenIdeal.Gen Cert.HiddenIdeal.Words

/-- A word that holds two exponent fields. -/
def pack (a b : ℕ) : BitVec 32 := BitVec.ofNat 32 a <<< 7 ||| BitVec.ofNat 32 b <<< 23

/-- The row of a block whose exponents a row of words holds in its low fields. -/
def low (p : Fin 256) : Fin 512 := ⟨p.val + p.val / 8 * 8, by omega⟩

/-- The row of a block whose exponents a row of words holds in its high fields. -/
def high (p : Fin 256) : Fin 512 := ⟨p.val + p.val / 8 * 8 + 8, by omega⟩

/-- The block of 32 columns, of the 256 of a row, that a lane of the words belongs to. -/
def lane (q : Fin 256) : Fin 256 := ⟨q.val / 128 * 128 + q.val % 32 * 4 + q.val % 128 / 32, by omega⟩

/-- Which lanes of a point's half are the point's own, and whose blocks they are. -/
theorem own : ∀ (i : Fin 32) (l : Fin 128),
    (l.val % 32 = i.val % 16 * 2 + 1 → ((128 * (i.val / 16) + l.val) / 128 * 128 + (128 * (i.val / 16) + l.val) % 32 * 4 + (128 * (i.val / 16) + l.val) % 128 / 32) / 8 = i.val
      ∧ ((128 * (i.val / 16) + l.val) / 128 * 128 + (128 * (i.val / 16) + l.val) % 32 * 4 + (128 * (i.val / 16) + l.val) % 128 / 32) % 8 = 4 + l.val / 32)
    ∧ (l.val % 32 = i.val % 16 * 2 → ((128 * (i.val / 16) + l.val) / 128 * 128 + (128 * (i.val / 16) + l.val) % 32 * 4 + (128 * (i.val / 16) + l.val) % 128 / 32) / 8 = i.val
      ∧ ((128 * (i.val / 16) + l.val) / 128 * 128 + (128 * (i.val / 16) + l.val) % 32 * 4 + (128 * (i.val / 16) + l.val) % 128 / 32) % 8 = l.val / 32)
    ∧ (¬ l.val % 32 = i.val % 16 * 2 + 1 → ¬ l.val % 32 = i.val % 16 * 2 →
      ¬ ((128 * (i.val / 16) + l.val) / 128 * 128 + (128 * (i.val / 16) + l.val) % 32 * 4 + (128 * (i.val / 16) + l.val) % 128 / 32) / 8 = i.val) := by decide +kernel

/-- The exponent field of a block of 32 columns, of the eight of a point. -/
def field (g : Fin 512 → Fin 256 → EReal) (r : Fin 512) (b : Fin 8) : ℕ :=
  Quantise.fieldOf (Quantise.largest fun j => g r ⟨32 * b.val + j.val, by omega⟩)

/-- The word a point is to leave at a place. -/
def wordOf (g : Fin 512 → Fin 256 → EReal) (p q : Fin 256) : BitVec 32 :=
  pack (field g (low p) ⟨(lane q).val % 8, by omega⟩) (field g (high p) ⟨(lane q).val % 8, by omega⟩)

/-- The word of two tiles holds the fields of their blocks. -/
theorem word_pack (a b : FVec Ideal S8x128 .f32) (r : Fin 8) (l : Fin 128) :
    Lanes.word a b (ix2 r l) = pack (Quantise.fieldOf (Codes.blockMax a r l)) (Quantise.fieldOf (Codes.blockMax b r l)) := by
  have ha : 0 ≤ Lanes.amax a (ix2 r l) := by rw [Codes.amax_at]; exact Quantise.largest_nonneg _
  have hb : 0 ≤ Lanes.amax b (ix2 r l) := by rw [Codes.amax_at]; exact Quantise.largest_nonneg _
  rw [Codes.word_at, Codes.expo_at _ _ _ ha, Codes.expo_at _ _ _ hb, Codes.amax_at, Codes.amax_at]
  rfl

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

variable (arg1 : BitVec 32) (v11 : IVec S8x128 32) (X_arg5 : BufTy.Contents (Elt Ideal) arg5.view.ty)
  (X_arg10 : BufTy.Contents (Elt Ideal) arg10.view.ty) (Z : FVec Ideal S512x256 .f32) (B : FVec Ideal S1x256 .f32) (k : Fin k0_t2_loop.trips)
  (f6 : BufTy.Contents (Elt Ideal) arg6.view.ty) (f8 : BufTy.Contents (Elt Ideal) arg8.view.ty) (f11 : BufTy.Contents (Elt Ideal) arg11.view.ty)

/-- The words of the first columns. -/
theorem leftWord_at (hZ : arg10.view.read (Elt Ideal) X_arg10 = Z) (hB : arg5.view.read (Elt Ideal) X_arg5 = B)
    (h : Fin 2) (s : Fin 8) (l : Fin 128) :
    leftWord arg5 arg10 X_arg5 X_arg10 k h (ix2 s l)
      = pack (field (Tiles.act Z B) (Tiles.row k (16 * h.val + s.val)) ⟨l.val / 32, by omega⟩)
        (field (Tiles.act Z B) (Tiles.row k (16 * h.val + 8 + s.val)) ⟨l.val / 32, by omega⟩) := by
  have e (q : Fin 4) (j : ℕ) (hj : j = 8 * q.val + s.val) (l : Fin 128) := Tiles.left_at arg5 arg10 X_arg5 X_arg10 Z B hZ hB k q s l
    (Tiles.row k j) ((Tiles.row_val k j (by omega)).trans (by omega))
  unfold leftWord
  rw [word_pack]
  unfold field Codes.blockMax
  simp only [e ⟨2 * h.val, by omega⟩ (16 * h.val + s.val) (by dsimp only; omega), e ⟨2 * h.val + 1, by omega⟩ (16 * h.val + 8 + s.val) (by dsimp only; omega)]

/-- The words of the last columns. -/
theorem rightWord_at (hZ : arg10.view.read (Elt Ideal) X_arg10 = Z) (hB : arg5.view.read (Elt Ideal) X_arg5 = B)
    (h : Fin 2) (s : Fin 8) (l : Fin 128) :
    rightWord arg5 arg10 X_arg5 X_arg10 k h (ix2 s l)
      = pack (field (Tiles.act Z B) (Tiles.row k (16 * h.val + s.val)) ⟨4 + l.val / 32, by omega⟩)
        (field (Tiles.act Z B) (Tiles.row k (16 * h.val + 8 + s.val)) ⟨4 + l.val / 32, by omega⟩) := by
  have e (q : Fin 4) (j : ℕ) (hj : j = 8 * q.val + s.val) (l : Fin 128) := Tiles.right_at arg5 arg10 X_arg5 X_arg10 Z B hZ hB k q s l
    (Tiles.row k j) ((Tiles.row_val k j (by omega)).trans (by omega))
  have c (j : Fin 32) : 128 + (32 * (l.val / 32) + j.val) = 32 * (4 + l.val / 32) + j.val := by omega
  unfold rightWord
  rw [word_pack]
  unfold field Codes.blockMax
  simp only [e ⟨2 * h.val, by omega⟩ (16 * h.val + s.val) (by dsimp only; omega), e ⟨2 * h.val + 1, by omega⟩ (16 * h.val + 8 + s.val) (by dsimp only; omega), c]

/-- Where an element of a trip's rectangle stands. -/
theorem rect_emb (h : Fin 2) (s : Fin 8) (l : Fin 128) (p q : Fin 256) (hp : p.val = 16 * k.val + 8 * h.val + s.val)
    (hq : q.val = 128 * ((i 1).val / 16) + l.val) : (rect i k h).emb (ix2 s l) = ix2 p q := by
  show (rect i k h).idx (ix2 s l) = _
  funext a; apply Fin.ext; rw [Rect.idx_unit_val]
  match a with
  | 0 => show k0_off4 i k (BitVec.ofNat 32 (8 * h.val)) 0 + s.val = p.val; rw [k0_off4_eq]; exact hp.symm
  | 1 => show k0_off4 i k (BitVec.ofNat 32 (8 * h.val)) 1 + l.val = q.val; rw [k0_off4_eq]; exact hq.symm

/-- The rectangle of a trip's rows. -/
theorem mem_rect (h : Fin 2) (p q : Fin 256) : (ix2 p q : S256x256.Idx) ∈ (rect i k h).set
    ↔ (16 * k.val + 8 * h.val ≤ p.val ∧ p.val < 16 * k.val + 8 * h.val + 8) ∧ q.val / 128 = (i 1).val / 16 := by
  rw [Rect.mem_set_unit, k0_off4_eq]
  constructor
  · intro H
    have h0 : 16 * k.val + 8 * h.val ≤ p.val ∧ p.val < 16 * k.val + 8 * h.val + 8 := H 0
    have h1 : 128 * ((i 1).val / 16) ≤ q.val ∧ q.val < 128 * ((i 1).val / 16) + 128 := H 1
    omega
  · rintro ⟨h0, h1⟩ a
    match a with
    | 0 => show 16 * k.val + 8 * h.val ≤ p.val ∧ p.val < 16 * k.val + 8 * h.val + 8; omega
    | 1 => show 128 * ((i 1).val / 16) ≤ q.val ∧ q.val < 128 * ((i 1).val / 16) + 128; omega

/-- An element of one of the two rectangles is not in the other. -/
theorem apart (h h' : Fin 2) (hh : h ≠ h') (x : (rect i k h).shape.Idx) : (rect i k h).emb x ∉ (rect i k h').set := by
  obtain ⟨s, l, rfl⟩ : ∃ (s : Fin 8) (l : Fin 128), x = ix2 s l := ⟨x 0, x 1, by funext a; match a with | 0 => rfl | 1 => rfl⟩
  have hk : k.val < 16 := Tiles.trips_eq ▸ k.isLt
  have hi : (i 1).val < 32 := (i 1).isLt
  have hne : h.val ≠ h'.val := fun e => hh (Fin.ext e)
  rw [rect_emb i k h s l ⟨16 * k.val + 8 * h.val + s.val, by omega⟩ ⟨128 * ((i 1).val / 16) + l.val, by omega⟩ rfl rfl, mem_rect]
  rintro ⟨⟨a, b⟩, _⟩
  dsimp only at a b
  omega

variable (hv : ∀ (s : Fin 8) (l : Fin 128), v11 (ix2 s l) = BitVec.ofNat 32 l.val) (n : Fin 32)

include hv in
/-- The first columns' words in their lanes, the old words elsewhere. -/
theorem leftKept_at (h : Fin 2) (s : Fin 8) (l : Fin 128) :
    leftKept i arg5 arg10 arg11 (BitVec.ofNat 32 n.val) v11 X_arg5 X_arg10 k f11 h (ix2 s l)
      = if l.val % 32 = n.val % 16 * 2 then leftWord arg5 arg10 X_arg5 X_arg10 k h (ix2 s l)
        else arg11.view.read (Elt Ideal) f11 ((rect i k h).emb (ix2 s l)) := by
  unfold leftKept
  rw [shapeCast_self]
  exact keep_at n v11 hv 0 _ _ s l

/-- A piece that does not hold a place leaves what the pieces before it stored there. -/
theorem canon_skip (r : Rect S256x256) (w : r.shape.Idx → Elt Ideal .i32) (L : List (View.Piece (Elt Ideal) S256x256 .i32)) (y : S256x256.Idx)
    (h : y ∉ r.set) : View.canon (⟨r, w⟩ :: L) y = View.canon L y := View.canon_cons_of_not_mem ⟨r, w⟩ L h

/-- The same over contents that were there before. -/
theorem read_skip (v : View sig .tc .vmem S256x256 .i32) (f : BufTy.Contents (Elt Ideal) v.ty) (r : Rect S256x256) (w : r.shape.Idx → Elt Ideal .i32)
    (L : List (View.Piece (Elt Ideal) S256x256 .i32)) (y : S256x256.Idx) (h : y ∉ r.set) :
    v.read (Elt Ideal) (v.writes (Elt Ideal) f (⟨r, w⟩ :: L)) y = v.read (Elt Ideal) (v.writes (Elt Ideal) f L) y :=
  View.read_writes_cons_miss v f ⟨r, w⟩ L y h

/-- What is read back of the first columns' pieces. -/
theorem read_left (x : (rect i k 0).shape.Idx) :
    arg11.view.readCov (leftPieces i arg5 arg10 arg11 arg1 v11 X_arg5 X_arg10 k f11) (rect i k 0).toLoadRect x
      = leftKept i arg5 arg10 arg11 arg1 v11 X_arg5 X_arg10 k f11 0 x := by
  rw [View.readCov_eq_canon']
  show View.canon (leftPieces i arg5 arg10 arg11 arg1 v11 X_arg5 X_arg10 k f11) ((rect i k 0).emb x) = _
  unfold leftPieces
  rw [canon_skip _ _ _ _ (apart i k 0 1 (by decide) x), View.canon_cons_emb]

/-- What is read back of the three pieces. -/
theorem read_three (x : (rect i k 1).shape.Idx) :
    arg11.view.readCov (threePieces i arg5 arg10 arg11 arg1 v11 X_arg5 X_arg10 k f11) (rect i k 1).toLoadRect x
      = leftKept i arg5 arg10 arg11 arg1 v11 X_arg5 X_arg10 k f11 1 x := by
  rw [View.readCov_eq_canon']
  show View.canon (threePieces i arg5 arg10 arg11 arg1 v11 X_arg5 X_arg10 k f11) ((rect i k 1).emb x) = _
  unfold threePieces leftPieces
  rw [canon_skip _ _ _ _ (apart i k 1 0 (by decide) x), View.canon_cons_emb]

include hv in
/-- The last columns' words in their lanes, over the first columns' pieces. -/
theorem rightKept_at (L : List (View.Piece (Elt Ideal) S256x256 .i32)) (h : Fin 2) (s : Fin 8) (l : Fin 128)
    (hL : arg11.view.readCov L (rect i k h).toLoadRect (ix2 s l) = leftKept i arg5 arg10 arg11 (BitVec.ofNat 32 n.val) v11 X_arg5 X_arg10 k f11 h (ix2 s l)) :
    rightKept i arg5 arg10 arg11 (BitVec.ofNat 32 n.val) v11 X_arg5 X_arg10 k L h (ix2 s l)
      = if l.val % 32 = n.val % 16 * 2 + 1 then rightWord arg5 arg10 X_arg5 X_arg10 k h (ix2 s l)
        else if l.val % 32 = n.val % 16 * 2 then leftWord arg5 arg10 X_arg5 X_arg10 k h (ix2 s l)
        else arg11.view.read (Elt Ideal) f11 ((rect i k h).emb (ix2 s l)) := by
  unfold rightKept
  rw [shapeCast_self, ← leftKept_at i arg5 arg10 arg11 v11 X_arg5 X_arg10 k f11 hv n h s l, ← hL]
  exact keep_at n v11 hv 1 _ _ s l

include hv in
/-- The last columns' piece, at the place its element stands. -/
theorem rightKept_word (hZ : arg10.view.read (Elt Ideal) X_arg10 = Z) (hB : arg5.view.read (Elt Ideal) X_arg5 = B) (hn : n.val = (i 1).val)
    (L : List (View.Piece (Elt Ideal) S256x256 .i32)) (h : Fin 2) (s : Fin 8) (l : Fin 128) (p q : Fin 256)
    (hp : p.val = 16 * k.val + 8 * h.val + s.val) (hq : q.val = 128 * ((i 1).val / 16) + l.val)
    (hL : arg11.view.readCov L (rect i k h).toLoadRect (ix2 s l) = leftKept i arg5 arg10 arg11 (BitVec.ofNat 32 n.val) v11 X_arg5 X_arg10 k f11 h (ix2 s l)) :
    rightKept i arg5 arg10 arg11 (BitVec.ofNat 32 n.val) v11 X_arg5 X_arg10 k L h (ix2 s l)
      = if (lane q).val / 8 = (i 1).val then wordOf (Tiles.act Z B) p q else arg11.view.read (Elt Ideal) f11 (ix2 p q) := by
  have hk : k.val < 16 := Tiles.trips_eq ▸ k.isLt
  have hi : (i 1).val < 32 := (i 1).isLt
  have hl : (lane q).val = (128 * ((i 1).val / 16) + l.val) / 128 * 128 + (128 * ((i 1).val / 16) + l.val) % 32 * 4 + (128 * ((i 1).val / 16) + l.val) % 128 / 32 := by
    rw [← hq]; rfl
  obtain ⟨o1, o2, o3⟩ := own ⟨(i 1).val, hi⟩ l
  dsimp only at o1 o2 o3
  rw [← hl] at o1 o2 o3
  have rl : Tiles.row k (16 * h.val + s.val) = low p := Fin.ext ((Tiles.row_val k _ (by omega)).trans (by show _ = p.val + p.val / 8 * 8; omega))
  have rh : Tiles.row k (16 * h.val + 8 + s.val) = high p := Fin.ext ((Tiles.row_val k _ (by omega)).trans (by show _ = p.val + p.val / 8 * 8 + 8; omega))
  rw [rightKept_at i arg5 arg10 arg11 v11 X_arg5 X_arg10 k f11 hv n L h s l hL, rect_emb i k h s l p q hp hq,
    rightWord_at arg5 arg10 X_arg5 X_arg10 Z B k hZ hB, leftWord_at arg5 arg10 X_arg5 X_arg10 Z B k hZ hB, rl, rh]
  unfold wordOf
  rw [hn]
  by_cases h1 : l.val % 32 = (i 1).val % 16 * 2 + 1
  · have b : (⟨4 + l.val / 32, by omega⟩ : Fin 8) = ⟨(lane q).val % 8, by omega⟩ := Fin.ext (o1 h1).2.symm
    rw [if_pos h1, if_pos (o1 h1).1, b]
  · rw [if_neg h1]
    by_cases h2 : l.val % 32 = (i 1).val % 16 * 2
    · have b : (⟨l.val / 32, by omega⟩ : Fin 8) = ⟨(lane q).val % 8, by omega⟩ := Fin.ext (o2 h2).2.symm
      rw [if_pos h2, if_pos (o2 h2).1, b]
    · rw [if_neg h2, if_neg (o3 h1 h2)]

include hv in
/-- What a trip leaves at a place. -/
theorem trip_read (hZ : arg10.view.read (Elt Ideal) X_arg10 = Z) (hB : arg5.view.read (Elt Ideal) X_arg5 = B) (hn : n.val = (i 1).val) (p q : Fin 256) :
    arg11.view.read (Elt Ideal) (arg11.view.writes (Elt Ideal) f11
      (tripL_k0_t2 (F := Ideal) 𝒱 c bd i arg2 harg2 arg3 harg3 arg4 harg4 arg5 harg5 arg6 harg6 arg7 harg7 arg8 harg8 arg9 harg9 arg10 harg10 arg11 harg11 (BitVec.ofNat 32 n.val) v11 X_arg5 X_arg10 k f6 f8 f11).2.2) (ix2 p q)
      = if (16 * k.val ≤ p.val ∧ p.val < 16 * k.val + 16) ∧ (lane q).val / 8 = (i 1).val then wordOf (Tiles.act Z B) p q
        else arg11.view.read (Elt Ideal) f11 (ix2 p q) := by
  have e0 : (lane q).val = q.val / 128 * 128 + q.val % 32 * 4 + q.val % 128 / 32 := rfl
  have hi : (i 1).val < 32 := (i 1).isLt
  rw [trip_words]
  by_cases hq : q.val / 128 = (i 1).val / 16
  · by_cases h1 : 16 * k.val + 8 ≤ p.val ∧ p.val < 16 * k.val + 16
    · have hx := rect_emb i k 1 ⟨p.val - (16 * k.val + 8), by omega⟩ ⟨q.val % 128, by omega⟩ p q (by show p.val = 16 * k.val + 8 * 1 + (p.val - (16 * k.val + 8)); omega) (by show q.val = 128 * ((i 1).val / 16) + q.val % 128; omega)
      rw [View.read_writes_cons_hit _ _ _ _ _ _ _ hx, rightKept_word i arg5 arg10 arg11 v11 X_arg5 X_arg10 Z B k f11 hv n hZ hB hn _ _ _ _ p q
        (by show p.val = 16 * k.val + 8 * 1 + (p.val - (16 * k.val + 8)); omega) (by show q.val = 128 * ((i 1).val / 16) + q.val % 128; omega)
        (read_three i arg5 arg10 arg11 _ v11 X_arg5 X_arg10 k f11 _)]
      exact if_congr (by omega) rfl rfl
    · rw [read_skip _ _ _ _ _ _ (by show (ix2 p q : S256x256.Idx) ∉ (rect i k 1).set; rw [mem_rect]; rintro ⟨⟨a, b⟩, _⟩; exact h1 ⟨a, b⟩)]
      by_cases h0 : 16 * k.val ≤ p.val ∧ p.val < 16 * k.val + 8
      · have hx := rect_emb i k 0 ⟨p.val - 16 * k.val, by omega⟩ ⟨q.val % 128, by omega⟩ p q (by show p.val = 16 * k.val + 8 * 0 + (p.val - 16 * k.val); omega) (by show q.val = 128 * ((i 1).val / 16) + q.val % 128; omega)
        unfold threePieces
        rw [View.read_writes_cons_hit _ _ _ _ _ _ _ hx, rightKept_word i arg5 arg10 arg11 v11 X_arg5 X_arg10 Z B k f11 hv n hZ hB hn _ _ _ _ p q
          (by show p.val = 16 * k.val + 8 * 0 + (p.val - 16 * k.val); omega) (by show q.val = 128 * ((i 1).val / 16) + q.val % 128; omega)
          (read_left i arg5 arg10 arg11 _ v11 X_arg5 X_arg10 k f11 _)]
        exact if_congr (by omega) rfl rfl
      · rw [if_neg (by omega)]
        unfold threePieces leftPieces
        rw [read_skip _ _ _ _ _ _ (by show (ix2 p q : S256x256.Idx) ∉ (rect i k 0).set; rw [mem_rect]; rintro ⟨⟨a, b⟩, _⟩; exact h0 ⟨a, b⟩),
          read_skip _ _ _ _ _ _ (by show (ix2 p q : S256x256.Idx) ∉ (rect i k 1).set; rw [mem_rect]; rintro ⟨⟨a, b⟩, _⟩; exact h1 ⟨a, b⟩),
          read_skip _ _ _ _ _ _ (by show (ix2 p q : S256x256.Idx) ∉ (rect i k 0).set; rw [mem_rect]; rintro ⟨⟨a, b⟩, _⟩; exact h0 ⟨a, b⟩)]
        rfl
  · rw [if_neg (by omega)]
    have m (h : Fin 2) : (ix2 p q : S256x256.Idx) ∉ (rect i k h).set := by
      rw [mem_rect]; exact fun e => hq e.2
    unfold threePieces leftPieces
    rw [read_skip _ _ _ _ _ _ (m 1), read_skip _ _ _ _ _ _ (m 0), read_skip _ _ _ _ _ _ (m 1),
      read_skip _ _ _ _ _ _ (m 0)]
    rfl

variable (G6 : BufTy.Contents (Elt Ideal) arg6.view.ty) (G8 : BufTy.Contents (Elt Ideal) arg8.view.ty) (G11 : BufTy.Contents (Elt Ideal) arg11.view.ty)

include hv in
/-- What `j` trips leave at a place. -/
theorem loop_read (hZ : arg10.view.read (Elt Ideal) X_arg10 = Z) (hB : arg5.view.read (Elt Ideal) X_arg5 = B) (hn : n.val = (i 1).val) (p q : Fin 256) :
    ∀ j : ℕ, j ≤ k0_t2_loop.trips → arg11.view.read (Elt Ideal) (arg11.view.writes (Elt Ideal) G11
      (pb_k0_t2 (F := Ideal) 𝒱 c bd i arg2 harg2 arg3 harg3 arg4 harg4 arg5 harg5 arg6 harg6 arg7 harg7 arg8 harg8 arg9 harg9 arg10 harg10 arg11 harg11 (BitVec.ofNat 32 n.val) v11 X_arg5 X_arg10 G6 G8 G11 j).2.2) (ix2 p q)
      = if p.val < 16 * j ∧ (lane q).val / 8 = (i 1).val then wordOf (Tiles.act Z B) p q
        else arg11.view.read (Elt Ideal) G11 (ix2 p q)
  | 0, _ => by rw [if_neg (by omega)]; rfl
  | j + 1, hj => by
    have ih := loop_read hZ hB hn p q j (by omega)
    have e := congrArg (fun r => r.2.2) (pb_k0_t2_succ (F := Ideal) 𝒱 c bd i arg2 harg2 arg3 harg3 arg4 harg4 arg5 harg5 arg6 harg6 arg7 harg7 arg8 harg8 arg9 harg9 arg10 harg10 arg11 harg11 (BitVec.ofNat 32 n.val) v11 X_arg5 X_arg10 G6 G8 G11 ⟨j, hj⟩)
    dsimp only at e
    rw [e, View.writes_append, trip_read 𝒱 c bd i arg2 harg2 arg3 harg3 arg4 harg4 arg5 harg5 arg6 harg6 arg7 harg7 arg8 harg8 arg9 harg9 arg10 harg10 arg11 harg11 v11 X_arg5 X_arg10 Z B ⟨j, hj⟩ _ _ _ hv n hZ hB hn p q, ih]
    dsimp only
    split_ifs <;> first | rfl | omega

end Cert.HiddenIdeal.Kept

end
-- ==== Proof.Bytes.lean ====
/- What the kernel's last loop stores of a column block's sweep: a byte per block of 32 columns, its exponent plus 127. -/
module

public import proofs.«01_k».proof.Proof.Kept
public import Idealize.ShloMosaic.Lib.Pipeline.CanonAppend

@[expose] public section

set_option maxRecDepth 16384

noncomputable section

namespace Cert.HiddenIdeal.Bytes

open Idealize.ShloMosaic Idealize.ShloMosaic.TcCoe Idealize.SL.Sem Cert.HiddenIdeal Cert.HiddenIdeal.Gen Cert.HiddenIdeal.Kept

/-- The lane each lane takes its word from. -/
def source : IVec S8x128 32 :=
  have o : IVec S8x128 32 := iota .tc S8x128 32 [1] iota_S8x128_d1_w32
  have x : IVec S8x128 32 := addi (muli (andi o (broadcast S8x128 3#32)) (broadcast S8x128 32#32)) (shrsi o (broadcast S8x128 2#32))
  shapeCast S8x128 (shapeCast S8x128x1 (select (cmpi .slt x (broadcast S8x128 0#32)) (addi x (broadcast S8x128 128#32)) x)
    shapeCasts_S8x128_S8x128x1) shapeCasts_S8x128x1_S8x128

/-- The words of a tile, each in the lane its byte is stored at. -/
def take (w : IVec S8x128 32) : IVec S8x128 32 := dynamicGather 1 w source

/-- A field of a word, less eight. -/
def less8 (s : BitVec 32) (w : IVec S8x128 32) : IVec S8x128 32 :=
  subi (andi (shrui w (broadcast S8x128 s)) (broadcast S8x128 255#32)) (broadcast S8x128 8#32)

/-- The bytes of two tiles of words, 32 rows. -/
def bytes (a b : IVec S8x128 32) : IVec S32x128 8 :=
  trunci 8 (concatenate S32x128 0 [⟨S8x128, less8 7#32 (take a)⟩, ⟨S8x128, less8 23#32 (take a)⟩, ⟨S8x128, less8 7#32 (take b)⟩,
    ⟨S8x128, less8 23#32 (take b)⟩] concatenates_S8x128_S8x128_S8x128_S8x128_S32x128_d0) natLt_8_32

variable (𝒱 : Variants) (c : Dev nD) (bd : Option 𝒱.V) (i : grid0.Coords) (arg2 : Memref sig .tc .vmem S512x12800 .bf16) (harg2 : arg2.IsWhole) (arg3 : Memref sig .tc .vmem S12800x256 .fp8e4m3) (harg3 : arg3.IsWhole) (arg4 : Memref sig .tc .vmem S400x256 .i32) (harg4 : arg4.IsWhole) (arg5 : Memref sig .tc .vmem S1x256 .f32) (harg5 : arg5.IsWhole) (arg6 : Memref sig .tc .vmem S512x256 .fp8e4m3) (harg6 : arg6.IsWhole) (arg7 : Memref sig .tc .vmem S512x256 .i8) (harg7 : arg7.IsWhole) (arg8 : Memref sig .tc .vmem S512x256 .bf16) (harg8 : arg8.IsWhole) (arg9 : Memref sig .tc .vmem S12800x256 .bf16) (harg9 : arg9.IsWhole) (arg10 : Memref sig .tc .vmem S512x256 .f32) (harg10 : arg10.IsWhole) (arg11 : Memref sig .tc .vmem S256x256 .i32) (harg11 : arg11.IsWhole)

variable (h2 : k0_cond2 i = 1#1) (X : BufTy.Contents (Elt Ideal) arg11.view.ty) (k : Fin k0_t3_loop.trips)

/-- The words of a trip, in the first 128 lanes. -/
def first (q : Fin 2) : IVec S8x128 32 :=
  arg11.view.readAt (Elt Ideal) (Rect.unit (s := S256x256) (k0_off8 k (BitVec.ofNat 32 (8 * q.val))) S8x128.size (k0_off8_inb i k h2 q)).toLoadRect X

/-- The words of a trip, in the last 128 lanes. -/
def last (q : Fin 2) : IVec S8x128 32 :=
  arg11.view.readAt (Elt Ideal) (Rect.unit (s := S256x256) (k0_off10 k (BitVec.ofNat 32 (8 * q.val))) S8x128.size (k0_off10_inb i k h2 q)).toLoadRect X

/-- The bytes a trip stores. -/
theorem trip_bytes :
    tripL_k0_t3 (F := Ideal) 𝒱 c bd i arg2 harg2 arg3 harg3 arg4 harg4 arg5 harg5 arg6 harg6 arg7 harg7 arg8 harg8 arg9 harg9 arg10 harg10 arg11 harg11 h2 X k
    = [⟨Rect.unit (s := S512x256) (k0_off11 k) S32x128.size (k0_off11_inb i k h2), bytes (last i arg11 h2 X k 0) (last i arg11 h2 X k 1)⟩,
      ⟨Rect.unit (s := S512x256) (k0_off9 k) S32x128.size (k0_off9_inb i k h2), bytes (first i arg11 h2 X k 0) (first i arg11 h2 X k 1)⟩] := by
  unfold tripL_k0_t3 trip_k0_t3
  rfl

theorem source_lane : ∀ l : Fin 128,
    (Scalar.select (IntOp.cmpi CmpIPredicate.slt (IntOp.addi (IntOp.muli (IntOp.andi (BitVec.ofNat 32 l.val) 3#32) 32#32) (IntOp.shrsi .vector (BitVec.ofNat 32 l.val) 2#32)) 0#32)
      (IntOp.addi (IntOp.addi (IntOp.muli (IntOp.andi (BitVec.ofNat 32 l.val) 3#32) 32#32) (IntOp.shrsi .vector (BitVec.ofNat 32 l.val) 2#32)) 128#32)
      (IntOp.addi (IntOp.muli (IntOp.andi (BitVec.ofNat 32 l.val) 3#32) 32#32) (IntOp.shrsi .vector (BitVec.ofNat 32 l.val) 2#32))).toNat % 128
      = l.val % 4 * 32 + l.val / 4 := by decide +kernel

theorem source_at (s : Fin 8) (l : Fin 128) : (source (ix2 s l)).toNat % 128 = l.val % 4 * 32 + l.val / 4 := by
  rw [← source_lane l]
  pointwise [source]

theorem take_at (w : IVec S8x128 32) (s : Fin 8) (l : Fin 128) : take w (ix2 s l) = w (ix2 s ⟨l.val % 4 * 32 + l.val / 4, by omega⟩) := by
  simp only [← source_at s l]
  pointwise [take]

/-- The fields of a word, and a byte of one less eight. -/
theorem fields : ∀ k : Fin 256,
    (BitVec.ofNat 32 k.val <<< 7) >>> 7 &&& 255#32 = BitVec.ofNat 32 k.val
    ∧ (BitVec.ofNat 32 k.val <<< 23) >>> 7 &&& 255#32 = 0#32
    ∧ (BitVec.ofNat 32 k.val <<< 7) >>> 23 &&& 255#32 = 0#32
    ∧ (BitVec.ofNat 32 k.val <<< 23) >>> 23 &&& 255#32 = BitVec.ofNat 32 k.val
    ∧ (8 ≤ k.val → (BitVec.ofNat 32 k.val - 8#32).setWidth 8 = BitVec.ofNat 8 (k.val - 8)) := by decide +kernel

theorem low_field (a b : ℕ) (ha : a < 256) (hb : b < 256) : pack a b >>> 7 &&& 255#32 = BitVec.ofNat 32 a := by
  unfold pack
  rw [BitVec.ushiftRight_or_distrib, BitVec.and_comm, BitVec.and_or_distrib_left, BitVec.and_comm, (fields ⟨a, ha⟩).1,
    BitVec.and_comm, (fields ⟨b, hb⟩).2.1]
  exact BitVec.or_zero

theorem high_field (a b : ℕ) (ha : a < 256) (hb : b < 256) : pack a b >>> 23 &&& 255#32 = BitVec.ofNat 32 b := by
  unfold pack
  rw [BitVec.ushiftRight_or_distrib, BitVec.and_comm, BitVec.and_or_distrib_left, BitVec.and_comm, (fields ⟨a, ha⟩).2.2.1,
    BitVec.and_comm, (fields ⟨b, hb⟩).2.2.2.1]
  exact BitVec.zero_or

theorem less_low (w : IVec S8x128 32) (s : Fin 8) (l : Fin 128) (a b : ℕ) (ha : a < 256) (hb : b < 256) (h8 : 8 ≤ a) (h : w (ix2 s l) = pack a b) :
    (less8 7#32 w (ix2 s l)).setWidth 8 = BitVec.ofNat 8 (a - 8) := by
  have e : less8 7#32 w (ix2 s l) = (w (ix2 s l) >>> 7 &&& 255#32) - 8#32 := by pointwise [less8]; rfl
  rw [e, h, low_field a b ha hb]
  exact (fields ⟨a, ha⟩).2.2.2.2 h8

theorem less_high (w : IVec S8x128 32) (s : Fin 8) (l : Fin 128) (a b : ℕ) (ha : a < 256) (hb : b < 256) (h8 : 8 ≤ b) (h : w (ix2 s l) = pack a b) :
    (less8 23#32 w (ix2 s l)).setWidth 8 = BitVec.ofNat 8 (b - 8) := by
  have e : less8 23#32 w (ix2 s l) = (w (ix2 s l) >>> 23 &&& 255#32) - 8#32 := by pointwise [less8]; rfl
  rw [e, h, high_field a b ha hb]
  exact (fields ⟨b, hb⟩).2.2.2.2 h8

/-- The bytes of two tiles whose words hold the fields of 32 rows. -/
theorem bytes_at (a b : IVec S8x128 32) (f : ℕ → Fin 128 → ℕ) (hf : ∀ r l, 8 ≤ f r l ∧ f r l < 256)
    (ha : ∀ (s : Fin 8) (l : Fin 128), a (ix2 s l) = pack (f s.val l) (f (8 + s.val) l))
    (hb : ∀ (s : Fin 8) (l : Fin 128), b (ix2 s l) = pack (f (16 + s.val) l) (f (24 + s.val) l)) (r : Fin 32) (l : Fin 128) :
    bytes a b (ix2 r l) = BitVec.ofNat 8 (f r.val ⟨l.val % 4 * 32 + l.val / 4, by omega⟩ - 8) := by
  pointwise [bytes]
  split
  · exact less_low _ _ _ _ _ (hf _ _).2 (hf _ _).2 (hf _ _).1 ((take_at _ _ _).trans (ha _ _))
  · split
    · refine (less_high _ _ _ _ _ (hf _ _).2 (hf _ _).2 (hf _ _).1 ((take_at _ _ _).trans (ha _ _))).trans ?_
      simp only [show 8 + (r.val - 8) = r.val by omega]
    · split
      · refine (less_low _ _ _ _ _ (hf _ _).2 (hf _ _).2 (hf _ _).1 ((take_at _ _ _).trans (hb _ _))).trans ?_
        simp only [show 16 + (r.val - 8 - 8) = r.val by omega]
      · refine (less_high _ _ _ _ _ (hf _ _).2 (hf _ _).2 (hf _ _).1 ((take_at _ _ _).trans (hb _ _))).trans ?_
        simp only [show 24 + (r.val - 8 - 8 - 8) = r.val by omega]

/-- The number of trips. -/
theorem trips_eq : k0_t3_loop.trips = 16 := by decide +kernel

variable (g : Fin 512 → Fin 256 → ℕ)

/-- The words of a whole sweep. -/
def words : S256x256.Idx → BitVec 32 := fun y => pack (g (low (y 0)) (lane (y 1))) (g (high (y 0)) (lane (y 1)))

/-- The bytes of a whole sweep. -/
def stored : S512x256.Idx → BitVec 8 := fun y => BitVec.ofNat 8 (g (y 0) (y 1) - 8)

/-- A row of a trip. -/
def row (n : ℕ) : Fin 512 := ⟨(32 * k.val + n) % 512, Nat.mod_lt _ (by omega)⟩

theorem row_val (n : ℕ) (h : n < 32) : (row k n).val = 32 * k.val + n := by
  have hk : k.val < 16 := trips_eq ▸ k.isLt
  exact Nat.mod_eq_of_lt (by omega)

/-- The fields of two words, by the rows they stand in. -/
theorem words_at (q : Fin 2) (s : Fin 8) (y : S256x256.Idx) (c : Fin 256) (h0 : (y 0).val = 16 * k.val + 8 * q.val + s.val) (h1 : y 1 = c) :
    words g y = pack (g (row k (16 * q.val + s.val)) (lane c)) (g (row k (16 * q.val + 8 + s.val)) (lane c)) := by
  have hy : (y 0).val < 256 := (y 0).isLt
  unfold words
  rw [h1]
  have a : low (y 0) = row k (16 * q.val + s.val) := Fin.ext ((show (y 0).val + (y 0).val / 8 * 8 = _ by omega).trans (row_val k _ (by omega)).symm)
  have b : high (y 0) = row k (16 * q.val + 8 + s.val) := Fin.ext ((show (y 0).val + (y 0).val / 8 * 8 + 8 = _ by omega).trans (row_val k _ (by omega)).symm)
  rw [a, b]

variable (hX : arg11.view.read (Elt Ideal) X = words g)

include hX in
theorem first_at (q : Fin 2) (s : Fin 8) (l : Fin 128) :
    first i arg11 h2 X k q (ix2 s l) = pack (g (row k (16 * q.val + s.val)) (lane ⟨l.val, by omega⟩)) (g (row k (16 * q.val + 8 + s.val)) (lane ⟨l.val, by omega⟩)) := by
  show arg11.view.read (Elt Ideal) X ((Rect.unit (s := S256x256) (k0_off8 k (BitVec.ofNat 32 (8 * q.val))) S8x128.size (k0_off8_inb i k h2 q)).idx (ix2 s l)) = _
  rw [hX]
  refine words_at k g q s _ _ ?_ (Fin.ext ?_)
  · rw [Rect.idx_unit_val]
    show k0_off8 k (BitVec.ofNat 32 (8 * q.val)) 0 + s.val = _
    rw [k0_off8_eq]; rfl
  · rw [Rect.idx_unit_val]
    show k0_off8 k (BitVec.ofNat 32 (8 * q.val)) 1 + l.val = l.val
    rw [k0_off8_eq]; exact Nat.zero_add _

include hX in
theorem last_at (q : Fin 2) (s : Fin 8) (l : Fin 128) :
    last i arg11 h2 X k q (ix2 s l) = pack (g (row k (16 * q.val + s.val)) (lane ⟨128 + l.val, by omega⟩)) (g (row k (16 * q.val + 8 + s.val)) (lane ⟨128 + l.val, by omega⟩)) := by
  show arg11.view.read (Elt Ideal) X ((Rect.unit (s := S256x256) (k0_off10 k (BitVec.ofNat 32 (8 * q.val))) S8x128.size (k0_off10_inb i k h2 q)).idx (ix2 s l)) = _
  rw [hX]
  refine words_at k g q s _ _ ?_ (Fin.ext ?_)
  · rw [Rect.idx_unit_val]
    show k0_off10 k (BitVec.ofNat 32 (8 * q.val)) 0 + s.val = _
    rw [k0_off10_eq]; rfl
  · rw [Rect.idx_unit_val]
    show k0_off10 k (BitVec.ofNat 32 (8 * q.val)) 1 + l.val = 128 + l.val
    rw [k0_off10_eq]; rfl

theorem back_lane : ∀ l : Fin 128,
    (0 + (l.val % 4 * 32 + l.val / 4)) / 128 * 128 + (0 + (l.val % 4 * 32 + l.val / 4)) % 32 * 4 + (0 + (l.val % 4 * 32 + l.val / 4)) % 128 / 32 = 0 + l.val
    ∧ (128 + (l.val % 4 * 32 + l.val / 4)) / 128 * 128 + (128 + (l.val % 4 * 32 + l.val / 4)) % 32 * 4 + (128 + (l.val % 4 * 32 + l.val / 4)) % 128 / 32 = 128 + l.val := by
  decide +kernel

/-- The lane each byte is taken from belongs to its block. -/
theorem back (o : ℕ) (ho : o = 0 ∨ o = 128) (l : Fin 128) (h : o + (l.val % 4 * 32 + l.val / 4) < 256) :
    lane ⟨o + (l.val % 4 * 32 + l.val / 4), h⟩ = ⟨o + l.val, by omega⟩ := by
  apply Fin.ext
  rcases ho with rfl | rfl
  · exact (back_lane l).1
  · exact (back_lane l).2

variable (hg : ∀ r b, 8 ≤ g r b ∧ g r b < 256)

include hX hg in
/-- A trip's bytes of the first columns. -/
theorem first_stored (x : (Rect.unit (s := S512x256) (k0_off9 k) S32x128.size (k0_off9_inb i k h2)).shape.Idx) :
    bytes (first i arg11 h2 X k 0) (first i arg11 h2 X k 1) x = stored g ((Rect.unit (s := S512x256) (k0_off9 k) S32x128.size (k0_off9_inb i k h2)).emb x) := by
  obtain ⟨r, l, rfl⟩ : ∃ (r : Fin 32) (l : Fin 128), x = ix2 r l := ⟨x 0, x 1, by funext a; match a with | 0 => rfl | 1 => rfl⟩
  have e := first_at i arg11 h2 X k g hX
  refine (bytes_at _ _ (fun n l => g (row k n) (lane ⟨l.val, by omega⟩)) (fun _ _ => hg _ _) (fun s l => (e 0 s l).trans (by simp)) (fun s l => (e 1 s l).trans (by simp)) r l).trans ?_
  have hb := back 0 (Or.inl rfl) l (by omega)
  simp only [Nat.zero_add] at hb
  unfold stored
  rw [hb]
  refine congrArg₂ (fun p q => BitVec.ofNat 8 (g p q - 8)) (Fin.ext ?_) (Fin.ext ?_)
  · rw [row_val k _ r.isLt]
    show _ = k0_off9 k 0 + 1 * r.val
    rw [k0_off9_eq]; show _ = 32 * k.val + 1 * r.val; omega
  · show l.val = k0_off9 k 1 + 1 * l.val
    rw [k0_off9_eq]; show _ = 0 + 1 * l.val; omega

include hX hg in
/-- A trip's bytes of the last columns. -/
theorem last_stored (x : (Rect.unit (s := S512x256) (k0_off11 k) S32x128.size (k0_off11_inb i k h2)).shape.Idx) :
    bytes (last i arg11 h2 X k 0) (last i arg11 h2 X k 1) x = stored g ((Rect.unit (s := S512x256) (k0_off11 k) S32x128.size (k0_off11_inb i k h2)).emb x) := by
  obtain ⟨r, l, rfl⟩ : ∃ (r : Fin 32) (l : Fin 128), x = ix2 r l := ⟨x 0, x 1, by funext a; match a with | 0 => rfl | 1 => rfl⟩
  have e := last_at i arg11 h2 X k g hX
  refine (bytes_at _ _ (fun n l => g (row k n) (lane ⟨128 + l.val, by omega⟩)) (fun _ _ => hg _ _) (fun s l => (e 0 s l).trans (by simp)) (fun s l => (e 1 s l).trans (by simp)) r l).trans ?_
  have hb := back 128 (Or.inr rfl) l (by omega)
  unfold stored
  rw [hb]
  refine congrArg₂ (fun p q => BitVec.ofNat 8 (g p q - 8)) (Fin.ext ?_) (Fin.ext ?_)
  · rw [row_val k _ r.isLt]
    show _ = k0_off11 k 0 + 1 * r.val
    rw [k0_off11_eq]; show _ = 32 * k.val + 1 * r.val; omega
  · show 128 + l.val = k0_off11 k 1 + 1 * l.val
    rw [k0_off11_eq]; show _ = 128 + 1 * l.val; omega

/-- Every row of a trip is stored by one of its two pieces. -/
theorem trip_covers (y : S512x256.Idx) (a1 : 32 * k.val ≤ (y 0).val) (a2 : (y 0).val < 32 * (k.val + 1)) :
    y ∈ (Rect.unit (s := S512x256) (k0_off11 k) S32x128.size (k0_off11_inb i k h2)).set
      ∨ y ∈ (Rect.unit (s := S512x256) (k0_off9 k) S32x128.size (k0_off9_inb i k h2)).set := by
  have hl : (y 1).val < 256 := (y 1).isLt
  rw [Rect.mem_set_unit, Rect.mem_set_unit]
  by_cases h : (y 1).val < 128
  · right
    intro a
    match a with
    | 0 => show k0_off9 k 0 ≤ (y 0).val ∧ (y 0).val < k0_off9 k 0 + 32; rw [k0_off9_eq]; exact ⟨a1, a2⟩
    | 1 => show k0_off9 k 1 ≤ (y 1).val ∧ (y 1).val < k0_off9 k 1 + 128; rw [k0_off9_eq]; show 0 ≤ _ ∧ _ < 0 + 128; omega
  · left
    intro a
    match a with
    | 0 => show k0_off11 k 0 ≤ (y 0).val ∧ (y 0).val < k0_off11 k 0 + 32; rw [k0_off11_eq]; exact ⟨a1, a2⟩
    | 1 => show k0_off11 k 1 ≤ (y 1).val ∧ (y 1).val < k0_off11 k 1 + 128; rw [k0_off11_eq]; show 128 ≤ _ ∧ _ < 128 + 128; omega

/-- One more trip's bytes, in front of those before. -/
theorem succ (n : ℕ) (hn : n < k0_t3_loop.trips) : pb_k0_t3 (F := Ideal) 𝒱 c bd i arg2 harg2 arg3 harg3 arg4 harg4 arg5 harg5 arg6 harg6 arg7 harg7 arg8 harg8 arg9 harg9 arg10 harg10 arg11 harg11 h2 X (n + 1)
    = [⟨Rect.unit (s := S512x256) (k0_off11 ⟨n, hn⟩) S32x128.size (k0_off11_inb i ⟨n, hn⟩ h2), bytes (last i arg11 h2 X ⟨n, hn⟩ 0) (last i arg11 h2 X ⟨n, hn⟩ 1)⟩,
      ⟨Rect.unit (s := S512x256) (k0_off9 ⟨n, hn⟩) S32x128.size (k0_off9_inb i ⟨n, hn⟩ h2), bytes (first i arg11 h2 X ⟨n, hn⟩ 0) (first i arg11 h2 X ⟨n, hn⟩ 1)⟩]
      ++ pb_k0_t3 (F := Ideal) 𝒱 c bd i arg2 harg2 arg3 harg3 arg4 harg4 arg5 harg5 arg6 harg6 arg7 harg7 arg8 harg8 arg9 harg9 arg10 harg10 arg11 harg11 h2 X n :=
  (pb_k0_t3_succ (F := Ideal) 𝒱 c bd i arg2 harg2 arg3 harg3 arg4 harg4 arg5 harg5 arg6 harg6 arg7 harg7 arg8 harg8 arg9 harg9 arg10 harg10 arg11 harg11 h2 X ⟨n, hn⟩).trans (congrArg (· ++ _) (trip_bytes 𝒱 c bd i arg2 harg2 arg3 harg3 arg4 harg4 arg5 harg5 arg6 harg6 arg7 harg7 arg8 harg8 arg9 harg9 arg10 harg10 arg11 harg11 h2 X ⟨n, hn⟩))

include hX hg in
/-- All the bytes the loop has stored are the sweep's. -/
theorem pieces : ∀ n : ℕ, n ≤ k0_t3_loop.trips → ∀ p ∈ pb_k0_t3 (F := Ideal) 𝒱 c bd i arg2 harg2 arg3 harg3 arg4 harg4 arg5 harg5 arg6 harg6 arg7 harg7 arg8 harg8 arg9 harg9 arg10 harg10 arg11 harg11 h2 X n, ∀ x, p.2 x = stored g (p.1.emb x)
  | 0, _, p, hp, _ => absurd hp List.not_mem_nil
  | n + 1, hn, p, hp, x => by
    rw [succ 𝒱 c bd i arg2 harg2 arg3 harg3 arg4 harg4 arg5 harg5 arg6 harg6 arg7 harg7 arg8 harg8 arg9 harg9 arg10 harg10 arg11 harg11 h2 X n hn, List.mem_append, List.mem_cons, List.mem_singleton] at hp
    rcases hp with (rfl | rfl) | hp
    · exact last_stored i arg11 h2 X ⟨n, hn⟩ g hX hg x
    · exact first_stored i arg11 h2 X ⟨n, hn⟩ g hX hg x
    · exact pieces n (by omega) p hp x

/-- Every row below `32 n` has its bytes stored by trip `n`. -/
theorem covered : ∀ n : ℕ, n ≤ k0_t3_loop.trips → ∀ y : S512x256.Idx, (y 0).val < 32 * n → ∃ p ∈ pb_k0_t3 (F := Ideal) 𝒱 c bd i arg2 harg2 arg3 harg3 arg4 harg4 arg5 harg5 arg6 harg6 arg7 harg7 arg8 harg8 arg9 harg9 arg10 harg10 arg11 harg11 h2 X n, y ∈ p.1.set
  | 0, _, y, hy => absurd hy (by omega)
  | n + 1, hn, y, hy => by
    rw [succ 𝒱 c bd i arg2 harg2 arg3 harg3 arg4 harg4 arg5 harg5 arg6 harg6 arg7 harg7 arg8 harg8 arg9 harg9 arg10 harg10 arg11 harg11 h2 X n hn]
    by_cases h : (y 0).val < 32 * n
    · obtain ⟨p, hp, hm⟩ := covered n (by omega) y h
      exact ⟨p, List.mem_append_right _ hp, hm⟩
    · rcases trip_covers i h2 ⟨n, hn⟩ y (by dsimp only; omega) hy with hm | hm
      · exact ⟨_, List.mem_append_left _ (List.mem_cons_self ..), hm⟩
      · exact ⟨_, List.mem_append_left _ (List.mem_cons_of_mem _ (List.mem_singleton.mpr rfl)), hm⟩

include hX hg in
/-- What the block of bytes holds after the loop, whatever was stored before it. -/
theorem canon (L : List (View.Piece (Elt Ideal) S512x256 .i8)) (n : ℕ) (hn : n = k0_t3_loop.trips) (y : S512x256.Idx) :
    View.canon (pb_k0_t3 (F := Ideal) 𝒱 c bd i arg2 harg2 arg3 harg3 arg4 harg4 arg5 harg5 arg6 harg6 arg7 harg7 arg8 harg8 arg9 harg9 arg10 harg10 arg11 harg11 h2 X n ++ L) y = stored g y := by
  refine View.canon_append_of_pieces (stored g) L _ (pieces 𝒱 c bd i arg2 harg2 arg3 harg3 arg4 harg4 arg5 harg5 arg6 harg6 arg7 harg7 arg8 harg8 arg9 harg9 arg10 harg10 arg11 harg11 h2 X g hX hg n hn.le) y (covered 𝒱 c bd i arg2 harg2 arg3 harg3 arg4 harg4 arg5 harg5 arg6 harg6 arg7 harg7 arg8 harg8 arg9 harg9 arg10 harg10 arg11 harg11 h2 X n hn.le y ?_)
  have h0 : (y 0).val < 512 := (y 0).isLt
  rw [hn, trips_eq]; omega

include hX hg in
/-- The same where nothing was stored before. -/
theorem canon_alone (n : ℕ) (hn : n = k0_t3_loop.trips) (y : S512x256.Idx) : View.canon (pb_k0_t3 (F := Ideal) 𝒱 c bd i arg2 harg2 arg3 harg3 arg4 harg4 arg5 harg5 arg6 harg6 arg7 harg7 arg8 harg8 arg9 harg9 arg10 harg10 arg11 harg11 h2 X n) y = stored g y :=
  (congrArg (fun l => View.canon l y) (List.append_nil _).symm).trans (canon 𝒱 c bd i arg2 harg2 arg3 harg3 arg4 harg4 arg5 harg5 arg6 harg6 arg7 harg7 arg8 harg8 arg9 harg9 arg10 harg10 arg11 harg11 h2 X g hX hg [] n hn y)

end Cert.HiddenIdeal.Bytes

end
-- ==== Proof.Sweep.lean ====
/- What the first product's exponent array holds: the exponents of a column block's sweep, carried from point to point. -/
module

public import proofs.«01_k».proof.Proof.HiddenArray
public import proofs.«01_k».proof.Proof.Bytes

@[expose] public section

set_option maxRecDepth 16384

noncomputable section

namespace Cert.HiddenIdeal.Sweep

open Idealize.ShloMosaic Idealize.ShloMosaic.TcCoe Idealize.SL.Sem Cert.HiddenIdeal Cert.HiddenIdeal.Gen
open Idealize.ShloMosaic.Pipeline (Dat)
open Cert.HiddenIdeal.Kept (pack low high lane)

variable (m : (ℓ : Loc nD τ sig) → Buf (Elt Ideal) ℓ)

/-- The second coordinate of a point. -/
theorem coord : ∀ t : Fin cfg0.N, (grid0.coords t 1).val = t.val % 32 := (by decide +kernel : ∀ t : Fin grid0.N, _)

/-- The exponent array's block of a point, and when it is written back. -/
theorem idx5 : ∀ t : Fin cfg0.N, win0_5.index t = ![t.val / 32, 0] ∧ ((cfg0.win 5).flush t = true → t.val % 32 = 31) :=
  (by decide +kernel : ∀ t : Fin grid0.N, _)

/-- The exponent field of a block of 32 columns of the activations. -/
def field (c : Dev nD) (i : Fin 6656) (b : Fin 256) : ℕ :=
  Quantise.fieldOf (Quantise.largest fun k => Array.acts m c i ⟨b.val * 32 + k.val, by omega⟩)

/-- The fields of the rows of a sweep. -/
def fields (c : Dev nD) (t : Fin cfg0.N) (r : Fin 512) (b : Fin 256) : ℕ := field m c (Array.row t r) b

theorem fields_range (c : Dev nD) (t : Fin cfg0.N) (r : Fin 512) (b : Fin 256) : 8 ≤ fields m c t r b ∧ fields m c t r b < 256 := by
  obtain ⟨h1, h2, _⟩ := Quantise.fieldOf_range (Quantise.largest fun k => Array.acts m c (Array.row t r) ⟨b.val * 32 + k.val, by omega⟩)
  unfold fields field
  omega

/-- The field of a block of a point is the array's. -/
theorem field_point (c : Dev nD) (t : Fin cfg0.N) (r : Fin 512) (b : Fin 256) (hb : b.val / 8 = t.val % 32) :
    Kept.field (Tiles.act (Array.prod m c t) (iblk m c 3 t)) r ⟨b.val % 8, by omega⟩ = fields m c t r b := by
  unfold Kept.field fields field
  refine congrArg Quantise.fieldOf (congrArg Quantise.largest (funext fun j => (Array.act_block m c t r _).trans (congrArg (Array.acts m c _) (Fin.ext ?_))))
  show t.val % 32 * 256 + (32 * (b.val % 8) + j.val) = b.val * 32 + j.val
  omega

section Point

variable (c : Dev nD) (t : Fin cfg0.N) (X10 : BufTy.Contents (Elt Ideal) scM0_1.view.ty)
  (hX : scM0_1.view.read (Elt Ideal) X10 = Array.prod m c t)
  (G6 : BufTy.Contents (Elt Ideal) (ms0_4 t).view.ty) (G8 : BufTy.Contents (Elt Ideal) (ms0_6 t).view.ty) (G11 : BufTy.Contents (Elt Ideal) scM0_2.view.ty)

include hX in
/-- What a point leaves of the words. -/
theorem words_point (p q : Fin 256) :
    scM0_2.view.read (Elt Ideal) (scM0_2.view.writes (Elt Ideal) G11 (pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (BitVec.ofNat 32 (grid0.coords t 1).val)
      (iota .tc S8x128 32 [1] iota_S8x128_d1_w32) ((hs0_3 t).unread (iblk m c 3 t)) X10 G6 G8 G11 (Scf.trips (0#32) (Scalar.addi 0#32 16#32) 1#32)).2.2) (ix2 p q)
      = if (lane q).val / 8 = t.val % 32 then Bytes.words (fields m c t) (ix2 p q) else scM0_2.view.read (Elt Ideal) G11 (ix2 p q) := by
  rw [Kept.loop_read Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iota .tc S8x128 32 [1] iota_S8x128_d1_w32) ((hs0_3 t).unread (iblk m c 3 t)) X10 (Array.prod m c t) (iblk m c 3 t)
    (fun s l => by pointwise) (grid0.coords t 1) G6 G8 G11 hX ((hs0_3 t).read_unread _) rfl p q _ le_rfl, coord t]
  by_cases h : (lane q).val / 8 = t.val % 32
  · rw [if_pos h, if_pos ⟨lt_of_lt_of_le p.isLt (by decide), h⟩]
    exact congrArg₂ pack (field_point m c t (low p) (lane q) h) (field_point m c t (high p) (lane q) h)
  · rw [if_neg h, if_neg (fun e => h e.2)]

end Point

/-- What the point before left of a sweep is of the same sweep. -/
theorem fields_prev (c : Dev nD) (t t' : Fin cfg0.N) (h : t'.val / 32 = t.val / 32) : fields m c t' = fields m c t := by
  funext r b
  exact congrArg (fun i => field m c i b) (Fin.ext (by show t'.val / 32 * 512 + r.val = t.val / 32 * 512 + r.val; rw [h]))

variable (c : Dev nD) (hr : ∀ (g : Fin 400) (l : Fin 8192), 1 ≤ ((m ((c : Thread nD τ).loc main_arg2) (ix2 g l) : BitVec 8)).toNat
      ∧ ((m ((c : Thread nD τ).loc main_arg2) (ix2 g l) : BitVec 8)).toNat ≤ 254)

include hr in
/-- After each point the words of the sweep's columns so far are kept. -/
theorem carried : ∀ (n : ℕ) (h : n < cfg0.N) (p q : Fin 256), (lane q).val / 8 ≤ n % 32 →
    (outsAt0 m c n h).2.2.2 (ix2 p q) = Bytes.words (fields m c ⟨n, h⟩) (ix2 p q) := by
  intro n
  induction n with
  | zero =>
    intro h p q hq
    rw [outsAt0_A m c ⟨0, h⟩ rfl (by show ¬ 0 % 32 = 31; decide)]
    frame_out
    rw [← View.read_writes_junk_eq_canon (View.whole cc0_scratch2), View.writes_append]
    refine (words_point m c ⟨0, h⟩ _ (Array.product m c hr ⟨0, h⟩ _) _ _ _ p q).trans ?_
    rw [if_pos (by show (lane q).val / 8 = 0 % 32; omega)]
  | succ n ih =>
    intro h p q hq
    by_cases h0 : (n + 1) % 32 = 0
    · rw [outsAt0_A m c ⟨n + 1, h⟩ h0 (by show ¬ (n + 1) % 32 = 31; omega)]
      frame_out
      rw [← View.read_writes_junk_eq_canon (View.whole cc0_scratch2), View.writes_append]
      refine (words_point m c ⟨n + 1, h⟩ _ (Array.product m c hr ⟨n + 1, h⟩ _) _ _ _ p q).trans ?_
      rw [if_pos (by show (lane q).val / 8 = (n + 1) % 32; omega)]
    · have e : fields m c ⟨n, Nat.lt_of_succ_lt h⟩ = fields m c ⟨n + 1, h⟩ := fields_prev m c ⟨n + 1, h⟩ ⟨n, Nat.lt_of_succ_lt h⟩ (by show n / 32 = (n + 1) / 32; omega)
      have step : (if (lane q).val / 8 = (n + 1) % 32 then Bytes.words (fields m c ⟨n + 1, h⟩) (ix2 p q)
          else scM0_2.view.read (Elt Ideal) ((Memref.isWhole_whole cc0_scratch2).unread (outsAt0 m c n (Nat.lt_of_succ_lt h)).2.2.2) (ix2 p q))
          = Bytes.words (fields m c ⟨n + 1, h⟩) (ix2 p q) := by
        by_cases hl : (lane q).val / 8 = (n + 1) % 32
        · rw [if_pos hl]
        · rw [if_neg hl]
          exact (congrFun ((Memref.isWhole_whole cc0_scratch2).read_unread _) (ix2 p q)).trans
            ((ih (Nat.lt_of_succ_lt h) p q (by omega)).trans (congrArg (fun g => Bytes.words g (ix2 p q)) e))
      by_cases h1 : (n + 1) % 32 = 31
      · rw [outsAt0_C m c ⟨n + 1, h⟩ h0 h1]
        frame_out
        exact (words_point m c ⟨n + 1, h⟩ _ (Array.product m c hr ⟨n + 1, h⟩ _) _ _ _ p q).trans step
      · rw [outsAt0_B m c ⟨n + 1, h⟩ h0 h1]
        frame_out
        exact (words_point m c ⟨n + 1, h⟩ _ (Array.product m c hr ⟨n + 1, h⟩ _) _ _ _ p q).trans step

include hr in
/-- The array of exponents. -/
theorem exponents_final : (dats m 0 c).arrAt 5 cfg0.N = fun y => BitVec.ofNat 8 (field m c (y 0) (y 1) - 8) := by
  refine (dats m 0 c).arrAt_eq_of_covers 5 (fun y => BitVec.ofNat 8 (field m c (y 0) (y 1) - 8)) (by decide +kernel) fun t hf y => ?_
  have h1 : t.val % 32 = 31 := (idx5 t).2 hf
  have h0 : ¬ t.val % 32 = 0 := by omega
  blk_simp
  have ht : t.val < 416 := t.isLt
  have hy : ∀ a b, Array.row t (y 0) = a → y 1 = b → Bytes.stored (fields m c t) y = BitVec.ofNat 8 (field m c a b - 8) := by
    rintro _ _ rfl rfl; rfl
  rw [after0_5]
  refine Eq.trans ?_ (hy _ _ (Fin.ext ?_) (Fin.ext ?_))
  · rw [outsAt0_C m c t h0 h1]
    frame_out
    refine Bytes.canon_alone Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) _ _ (fields m c t) ?_ (fields_range m c t) _ rfl y
    funext z
    idx_vars z
    refine (words_point m c t _ (Array.product m c hr t _) _ _ _ z0 z1).trans ?_
    by_cases hl : (lane z1).val / 8 = t.val % 32
    · rw [if_pos hl]
    · rw [if_neg hl]
      have hp : t.val - 1 < cfg0.N := Nat.lt_of_le_of_lt (Nat.sub_le _ _) t.isLt
      have hz : (lane z1).val < 256 := (lane z1).isLt
      exact (congrFun ((Memref.isWhole_whole cc0_scratch2).read_unread _) (ix2 z0 z1)).trans
        ((carried m c hr (t.val - 1) hp z0 z1 (by omega)).trans (congrArg (fun g => Bytes.words g (ix2 z0 z1)) (fields_prev m c t ⟨t.val - 1, hp⟩ (by show (t.val - 1) / 32 = t.val / 32; omega))))
  · unfold Array.row
    blk_simp [idx5 t]
  · blk_simp [idx5 t]

end Cert.HiddenIdeal.Sweep

end
-- ==== Proof.HiddenWritten.lean ====
/- What the first product's reference computes, read at one index. -/
module

public import proofs.«01_k».proof.Proof.Quantise
public import proofs.«01_k».proof.Proof.Gen.HiddenReferenceIdeal.Frame
public import Idealize.ShloMosaic.Lib.Pipeline.ValueKit

@[expose] public section

set_option maxRecDepth 16384

noncomputable section

namespace Cert.HiddenReferenceIdeal.Written

open Idealize.ShloMosaic Cert.HiddenReferenceIdeal Cert.HiddenReferenceIdeal.Gen Cert.Exponent

variable (e : Vec Ideal S400x8192 .i8) (w : FVec Ideal S12800x8192 .fp8e4m3) (a : FVec Ideal S6656x12800 .bf16) (b : FVec Ideal S8192 .f32)

/-- The activations of the arguments. -/
abbrev act (i : Fin 6656) (l : Fin 8192) : EReal :=
  Quantise.act (fun i k => a (ix2 i k)) (fun k l => w (ix2 k l)) (fun g l => e (ix2 g l)) (fun l => b (ix1 l)) i l

/-- The activations, 32 columns to a block. -/
theorem pay6_at (r : Fin 6656) (g : Fin 256) (l : Fin 32) :
    k0_pay6 (F := Ideal) e w a b (ix3 r g l) = act e w a b r ⟨g.val * 32 + l.val, by omega⟩ := by
  pointwise [k0_pay6]
  simp only [Scale.scale_word]
  rfl

/-- The largest magnitude of a block. -/
theorem pay7_at (r : Fin 6656) (g : Fin 256) :
    k0_pay7 (F := Ideal) e w a b (ix3 r g 0) = Quantise.largest fun k => act e w a b r ⟨g.val * 32 + k.val, by omega⟩ := by
  unfold k0_pay7
  have h := pay6_at e w a b r g
  generalize k0_pay6 (F := Ideal) e w a b = v at h ⊢
  pointwise
  rw [Quantise.fold_largest]
  simp only [h]

/-- The comparison with zero, of any array. -/
theorem positive_at (v : FVec Ideal S6656x256x1 .f32) (i : S6656x256x1.Idx) :
    cmpf .ogt v (broadcast S6656x256x1 (Scalar.ofBits .f32 0x00000000#32)) i = BitVec.ofBool (decide (0 < v i)) := by
  show Ideal.cmp .ogt (v i) (Ideal.ofBits .f32 0#32) = _
  rw [show Ideal.ofBits .f32 0#32 = 0 from by simp]
  rfl

/-- The whole part of a logarithm over a number, of any array. -/
theorem log_at (v : FVec Ideal S6656x256x1 .f32) (n : Ideal .f32) (i : S6656x256x1.Idx) :
    floor (divf (log (minimumf (broadcast S6656x256x1 (Scalar.ofBits .f32 0x7F000000#32))
      (maximumf (broadcast S6656x256x1 (Scalar.ofBits .f32 0x04800000#32)) v))) (broadcast S6656x256x1 n)) i
      = Ideal.liftRound Int.floor (Ideal.div (Ideal.log (clamp (v i))) n) := rfl

/-- Whether the block holds a number other than zero. -/
theorem pay8_at (r : Fin 6656) (g : Fin 256) :
    k0_pay8 (F := Ideal) e w a b (ix3 r g 0) = BitVec.ofBool (decide (0 < k0_pay7 (F := Ideal) e w a b (ix3 r g 0))) :=
  positive_at (k0_pay7 (F := Ideal) e w a b) _

/-- The whole part of the logarithm to base two. -/
theorem pay9_at (r : Fin 6656) (g : Fin 256) :
    k0_pay9 (F := Ideal) e w a b (ix3 r g 0)
      = Ideal.liftRound Int.floor (Ideal.div (Ideal.log (clamp (k0_pay7 (F := Ideal) e w a b (ix3 r g 0)))) ((Real.log 2 : ℝ) : EReal)) :=
  log_at (k0_pay7 (F := Ideal) e w a b) _ _

theorem ofBits_8 : Ideal.ofBits .f32 1090519040#32 = ((8 : ℝ) : EReal) := by
  have := ofBits_pow 130 (by omega) (by omega)
  norm_num at this ⊢
  exact this

theorem select_ofBool (p : Prop) [Decidable p] (x y : EReal) : Scalar.select (BitVec.ofBool (decide p)) x y = if p then x else y := by
  by_cases h : p <;> simp [Scalar.select, h]

/-- The exponent of a block. -/
theorem exponent_at (r : Fin 6656) (g : Fin 256) :
    (Scalar.select (k0_pay8 (F := Ideal) e w a b (ix3 r g 0)) ((k0_pay9 (F := Ideal) e w a b (ix3 r g 0) : EReal) - Ideal.ofBits .f32 1090519040#32) 0 : EReal)
      = (((exponent (Quantise.largest fun k => act e w a b r ⟨g.val * 32 + k.val, by omega⟩) : ℤ) : ℝ) : EReal) := by
  rw [pay8_at, pay9_at, pay7_at, ofBits_8, select_ofBool, exponent_log]

/-- The codes before their columns are laid out in one row, of any block array, mask and exponents. -/
theorem pay3_at (v28 : FVec Ideal S6656x256x32 .f32) (v33 : IVec S6656x256x1 1) (v41 : FVec Ideal S6656x256x1 .f32) (cst : Ideal .f32)
    (r : Fin 6656) (l : Fin 8192) :
    k0_pay3 (F := Ideal) v28 v33 v41 cst (ix2 r l) = min (Ideal.ofBits FTy.f32 1138753536#32)
      (max (Ideal.ofBits FTy.f32 3286237184#32)
        (v28 (ix3 r ⟨l.val / 32, by omega⟩ ⟨l.val % 32, by omega⟩) *
          FloatOps.exp2 (F := Ideal) (φ := .f32) (0 - Scalar.select (v33 (ix3 r ⟨l.val / 32, by omega⟩ 0)) ((v41 (ix3 r ⟨l.val / 32, by omega⟩ 0) : EReal) - cst) 0))) := by
  pointwise [k0_pay3, k0_pay2, k0_pay1]

/-- What the codes stand for. -/
theorem pay5_at (v28 : FVec Ideal S6656x256x32 .f32) (v33 : IVec S6656x256x1 1) (v41 : FVec Ideal S6656x256x1 .f32) (cst : Ideal .f32)
    (r : Fin 6656) (l : Fin 8192) :
    k0_pay5 (F := Ideal) v28 v33 v41 cst (ix2 r l) = k0_pay3 (F := Ideal) v28 v33 v41 cst (ix2 r l) *
      FloatOps.exp2 (F := Ideal) (φ := .f32) (Scalar.select (v33 (ix3 r ⟨l.val / 32, by omega⟩ 0)) ((v41 (ix3 r ⟨l.val / 32, by omega⟩ 0) : EReal) - cst) 0) := by
  rw [pay3_at]
  pointwise [k0_pay5, k0_pay2, k0_pay1]

/-- A column is in the block its number over 32 names. -/
theorem column (l : Fin 8192) : (⟨l.val / 32 * 32 + l.val % 32, by omega⟩ : Fin 8192) = l := Fin.ext (by show l.val / 32 * 32 + l.val % 32 = l.val; omega)

/-- The code of an activation. -/
theorem codes_at (r : Fin 6656) (l : Fin 8192) :
    k0_pay3 (F := Ideal) (k0_pay6 e w a b) (k0_pay8 e w a b) (k0_pay9 e w a b) (Scalar.ofBits .f32 0x41000000#32) (ix2 r l)
      = Quantise.code (act e w a b r l) (Quantise.largest fun k => act e w a b r ⟨l.val / 32 * 32 + k.val, by omega⟩) := by
  rw [pay3_at, pay6_at]
  erw [exponent_at]
  unfold Quantise.code
  rw [column, zero_sub, ← EReal.coe_neg, ← Int.cast_neg, Quantise.exp2_int]

/-- What the code of an activation stands for. -/
theorem rounded_at (r : Fin 6656) (l : Fin 8192) :
    k0_pay5 (F := Ideal) (k0_pay6 e w a b) (k0_pay8 e w a b) (k0_pay9 e w a b) (Scalar.ofBits .f32 0x41000000#32) (ix2 r l)
      = Quantise.rounded (act e w a b r l) (Quantise.largest fun k => act e w a b r ⟨l.val / 32 * 32 + k.val, by omega⟩) := by
  rw [pay5_at, codes_at]
  erw [exponent_at]
  rw [Quantise.exp2_int]
  rfl

/-- The values the stores write, of the arrays the loads read whole. -/
theorem loads : k0_pay10 (F := Ideal) a w e b = k0_pay6 e w a b ∧ k0_pay11 (F := Ideal) a w e b = k0_pay8 e w a b
    ∧ k0_pay12 (F := Ideal) a w e b = k0_pay9 e w a b := by
  have he : View.ld (Val := Elt Ideal) (e' := .i8) e r0_0 = e := View.ld_unit_zero (S := S400x8192) (off := ![0, 0]) (by decide) _ _
  have hw : View.ld (Val := Elt Ideal) (e' := .fp8e4m3) w r0_1 = w := View.ld_unit_zero (S := S12800x8192) (off := ![0, 0]) (by decide) _ _
  have ha : View.ld (Val := Elt Ideal) (e' := .bf16) a r0_2 = a := View.ld_unit_zero (S := S6656x12800) (off := ![0, 0]) (by decide) _ _
  have hb : View.ld (Val := Elt Ideal) (e' := .f32) b r0_3 = b := View.ld_unit_zero (S := S8192) (off := ![0]) (by decide) _ _
  unfold k0_pay10 k0_pay11 k0_pay12
  rw [he, hw, ha, hb]
  exact ⟨rfl, rfl, rfl⟩

/-- The stored code of an activation. -/
theorem stored_codes (r : Fin 6656) (l : Fin 8192) :
    k0_pay3 (F := Ideal) (k0_pay10 a w e b) (k0_pay11 a w e b) (k0_pay12 a w e b) (Scalar.ofBits .f32 0x41000000#32) (ix2 r l)
      = Quantise.code (act e w a b r l) (Quantise.largest fun k => act e w a b r ⟨l.val / 32 * 32 + k.val, by omega⟩) := by
  rw [(loads e w a b).1, (loads e w a b).2.1, (loads e w a b).2.2]
  exact codes_at e w a b r l

/-- The stored value of the code of an activation. -/
theorem stored_rounded (r : Fin 6656) (l : Fin 8192) :
    k0_pay5 (F := Ideal) (k0_pay10 a w e b) (k0_pay11 a w e b) (k0_pay12 a w e b) (Scalar.ofBits .f32 0x41000000#32) (ix2 r l)
      = Quantise.rounded (act e w a b r l) (Quantise.largest fun k => act e w a b r ⟨l.val / 32 * 32 + k.val, by omega⟩) := by
  rw [(loads e w a b).1, (loads e w a b).2.1, (loads e w a b).2.2]
  exact rounded_at e w a b r l

/-- The stored exponents of any mask and logarithms: a byte of the whole number and 127. -/
theorem pay4_at (v33 : IVec S6656x256x1 1) (v41 : FVec Ideal S6656x256x1 .f32) (cst : Ideal .f32) (r : Fin 6656) (g : Fin 256) :
    k0_pay4 (F := Ideal) v33 v41 cst (ix2 r g)
      = BitVec.setWidth 8 (Ideal.fptosi 32 (Scalar.select (v33 (ix3 r g 0)) ((v41 (ix3 r g 0) : EReal) - cst) 0) + 127#32) := by
  pointwise [k0_pay4, k0_pay1]
  rfl

/-- A field, as the reference stores it and as the kernel does. -/
theorem field_byte : ∀ n : Fin 255, 9 ≤ n.val →
    BitVec.setWidth 8 (BitVec.ofInt 32 ((n.val : ℤ) - 135) + 127#32) = BitVec.ofNat 8 (n.val - 8) := by decide +kernel

/-- The same, of a number known to be in range. -/
theorem byte_of (n : ℕ) (h1 : 9 ≤ n) (h2 : n ≤ 254) :
    BitVec.setWidth 8 (BitVec.ofInt 32 ((n : ℤ) - 135) + 127#32) = BitVec.ofNat 8 (n - 8) := field_byte ⟨n, by omega⟩ h1

/-- The whole number of an exponent. -/
theorem fptosi_exponent (x : EReal) : Ideal.fptosi 32 (((exponent x : ℤ) : ℝ) : EReal) = BitVec.ofInt 32 ((Quantise.fieldOf x : ℤ) - 135) := by
  obtain ⟨h1, h2, h3⟩ := Quantise.fieldOf_range x
  rw [Ideal.fptosi, Ideal.toIntClamped_coe, Int.floor_intCast, Int.ceil_intCast, ite_self, h3, min_eq_right, max_eq_right]
  · norm_num
    omega
  · norm_num
    omega

/-- The stored exponent of a block of activations. -/
theorem stored_exponents (r : Fin 6656) (g : Fin 256) :
    k0_pay4 (F := Ideal) (k0_pay11 a w e b) (k0_pay12 a w e b) (Scalar.ofBits .f32 0x41000000#32) (ix2 r g)
      = BitVec.ofNat 8 (Quantise.fieldOf (Quantise.largest fun k => act e w a b r ⟨g.val * 32 + k.val, by omega⟩) - 8) := by
  rw [(loads e w a b).2.1, (loads e w a b).2.2, pay4_at]
  erw [exponent_at]
  obtain ⟨h1, h2, -⟩ := Quantise.fieldOf_range (Quantise.largest fun k => act e w a b r ⟨g.val * 32 + k.val, by omega⟩)
  rw [fptosi_exponent]
  exact byte_of _ h1 h2

end Cert.HiddenReferenceIdeal.Written

end
-- ==== Proof.lean ====
/- The certificate: the result arrays of each product and of its reference hold the same numbers, element by element. -/
module

public import proofs.«01_k».proof.Defs
public import proofs.«01_k».proof.Proof.Gen.Kernel.Frame
public import proofs.«01_k».proof.Proof.Gen.Hidden.Frame
public import proofs.«01_k».proof.Proof.Gen.HiddenIdeal.Value
public import proofs.«01_k».proof.Proof.Gen.ReferenceIdeal.Value
public import proofs.«01_k».proof.Proof.Gen.HiddenReferenceIdeal.Value
public import proofs.«01_k».proof.Proof.Array
public import proofs.«01_k».proof.Proof.Written
public import proofs.«01_k».proof.Proof.HiddenArray
public import proofs.«01_k».proof.Proof.Sweep
public import proofs.«01_k».proof.Proof.HiddenWritten
public import Idealize.ShloMosaic.Lib.Claim

@[expose] public section

set_option maxRecDepth 16384

noncomputable section

namespace Cert.Proof

open Idealize.ShloMosaic Idealize.ShloMosaic.TcCoe Idealize.SL.Sem

/-- The side condition the precondition's function states. -/
theorem facts_pre : Cert.Pre_exponents_in_range.Facts := ⟨by decide⟩

/-- The comparison of a byte with 1 and 254, as a fact about numbers. -/
theorem in_range_byte : ∀ b : BitVec 8, IntOp.andi (IntOp.cmpi .uge b 1#8) (IntOp.cmpi .ule b 254#8) = 1#1 →
    1 ≤ b.toNat ∧ b.toNat ≤ 254 := by decide +kernel

/-- The precondition, read at one byte: it lies between 1 and 254. -/
theorem in_range [Cert.Pre_exponents_in_range.Facts]
    (m : (ℓ : Loc Cert.KernelIdeal.nD Cert.KernelIdeal.τ Cert.KernelIdeal.sig) → Buf (Elt Ideal) ℓ)
    (hpre : Cert.Pre_KernelIdeal_exponents_in_range m) (c : Dev Cert.KernelIdeal.nD) (g : Fin 256) (l : Fin 8192) :
    1 ≤ (m ((c : Thread Cert.KernelIdeal.nD Cert.KernelIdeal.τ).loc Cert.KernelIdeal.main_arg2) (ix2 g l) : BitVec 8).toNat
      ∧ (m ((c : Thread Cert.KernelIdeal.nD Cert.KernelIdeal.τ).loc Cert.KernelIdeal.main_arg2) (ix2 g l) : BitVec 8).toNat ≤ 254 := by
  exact in_range_byte _ (congrFun (hpre c) (ix2 g l))

/-- The kernel's results are the reference's. -/
theorem algebraic [Cert.Pre_exponents_in_range.Facts] : Cert.algebraic_KernelIdeal_ReferenceIdeal_pre_exponents_in_range := by
  pair_intro
  · run_from Cert.KernelIdeal.Value.run_blocks m g
  · run_from Cert.ReferenceIdeal.Value.run m' g'
    rw [Cert.KernelIdeal.Array.final m c (in_range m hpre c)]
    funext y
    idx_vars y
    exact Cert.ReferenceIdeal.Written.pay_at _ _ _ _ y0 y1

/-- The side condition the first product's precondition states. -/
theorem facts_pre_hidden : Cert.Pre_hidden_exponents_in_range.Facts := ⟨by decide⟩

/-- The first product's precondition, read at one byte. -/
theorem in_range_hidden [Cert.Pre_hidden_exponents_in_range.Facts]
    (m : (ℓ : Loc Cert.HiddenIdeal.nD Cert.HiddenIdeal.τ Cert.HiddenIdeal.sig) → Buf (Elt Ideal) ℓ)
    (hpre : Cert.Pre_HiddenIdeal_hidden_exponents_in_range m) (c : Dev Cert.HiddenIdeal.nD) (g : Fin 400) (l : Fin 8192) :
    1 ≤ (m ((c : Thread Cert.HiddenIdeal.nD Cert.HiddenIdeal.τ).loc Cert.HiddenIdeal.main_arg2) (ix2 g l) : BitVec 8).toNat
      ∧ (m ((c : Thread Cert.HiddenIdeal.nD Cert.HiddenIdeal.τ).loc Cert.HiddenIdeal.main_arg2) (ix2 g l) : BitVec 8).toNat ≤ 254 := by
  exact in_range_byte _ (congrFun (hpre c) (ix2 g l))

/-- The first product's results, codes, exponents and rounded values, are its reference's. -/
theorem algebraic_hidden [Cert.Pre_hidden_exponents_in_range.Facts] :
    Cert.algebraic_HiddenIdeal_HiddenReferenceIdeal_pre_hidden_exponents_in_range := by
  pair_intro
  · run_from Cert.HiddenIdeal.Value.run_blocks m g
  · refine Idealize.ShloMosaic.θ_run_mono (Cert.HiddenReferenceIdeal.Value.run m' g') ?_
    intro r hr c
    obtain ⟨h4, h5, h6, k⟩ := hr c
    simp only [hagree c] at h4 h5 h6
    refine ⟨h4.trans ?_, h5.trans ?_, h6.trans ?_, k⟩
    · rw [Cert.HiddenIdeal.Array.codes_final m c (in_range_hidden m hpre c)]
      funext y
      idx_vars y
      exact Cert.HiddenReferenceIdeal.Written.stored_codes _ _ _ _ y0 y1
    · rw [Cert.HiddenIdeal.Sweep.exponents_final m c (in_range_hidden m hpre c)]
      funext y
      idx_vars y
      exact Cert.HiddenReferenceIdeal.Written.stored_exponents _ _ _ _ y0 y1
    · rw [Cert.HiddenIdeal.Array.rounded_final m c (in_range_hidden m hpre c)]
      funext y
      idx_vars y
      exact Cert.HiddenReferenceIdeal.Written.stored_rounded _ _ _ _ y0 y1

/-- The certificate's claim. -/
theorem claim : Cert.Claim :=
  ⟨inferInstance, inferInstance, inferInstance, inferInstance, inferInstance, inferInstance, facts_pre_hidden, facts_pre,
    fun m g _ => Cert.Hidden.Gen.frame m g,
    fun m g _ => Cert.HiddenIdeal.Gen.frame m g,
    fun m g _ => Cert.HiddenIdeal.Gen.frame m g,
    fun m g _ => Cert.HiddenReferenceIdeal.Gen.frame m g,
    fun m g _ => Cert.HiddenReferenceIdeal.Gen.frame m g,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    trivial,
    trivial,
    @algebraic_hidden facts_pre_hidden,
    @algebraic facts_pre⟩

end Cert.Proof

end
